-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S65536x32 : Shape := ⟨2, ![65536, 32]⟩
abbrev S4x1024x32 : Shape := ⟨3, ![4, 1024, 32]⟩
abbrev S_ : Shape := ⟨0, ![]⟩

class Facts : Prop where
  bcast_S_S65536x32 : S_.BroadcastsInDim S65536x32 (![] : Fin 0 → Fin S65536x32.rank)
  bcast_S_S4x1024x32 : S_.BroadcastsInDim S4x1024x32 (![] : Fin 0 → Fin S4x1024x32.rank)

variable [Facts]

def fn {F : FTy → Type} [FloatOps F] (main_arg0 : FVec F S65536x32 .f32) (main_arg1 : FVec F S4x1024x32 .f32) : IVec S65536x32 1 × IVec S4x1024x32 1 :=
  let main_v0 : FVec F S65536x32 .f32 := Host.absf main_arg0
  let main_cst : FVec F S_ .f32 := constant S_ .f32 0x7F800000#32
  let main_v1 : FVec F S65536x32 .f32 := broadcastInDim S65536x32 ![] bcast_S_S65536x32 main_cst
  let main_v2 : IVec S65536x32 1 := cmpf .olt main_v0 main_v1
  let main_v3 : FVec F S4x1024x32 .f32 := Host.absf main_arg1
  let main_cst_0 : FVec F S_ .f32 := constant S_ .f32 0x7F800000#32
  let main_v4 : FVec F S4x1024x32 .f32 := broadcastInDim S4x1024x32 ![] bcast_S_S4x1024x32 main_cst_0
  let main_v5 : IVec S4x1024x32 1 := cmpf .olt main_v3 main_v4
  (main_v2, main_v5)
-- ==== Kernel.lean ====
abbrev S65536x32 : Shape := ⟨2, ![65536, 32]⟩
abbrev S4x1024x32 : Shape := ⟨3, ![4, 1024, 32]⟩
abbrev S32x65536 : Shape := ⟨2, ![32, 65536]⟩
abbrev S4x32x1024 : Shape := ⟨3, ![4, 32, 1024]⟩
abbrev S_ : Shape := ⟨0, ![]⟩
abbrev S4x1024 : Shape := ⟨2, ![4, 1024]⟩
abbrev S4x1024x1 : Shape := ⟨3, ![4, 1024, 1]⟩
abbrev S4x1024x4 : Shape := ⟨3, ![4, 1024, 4]⟩
abbrev S4x1024x40 : Shape := ⟨3, ![4, 1024, 40]⟩
abbrev S1x1 : Shape := ⟨2, ![1, 1]⟩
abbrev S32x2048 : Shape := ⟨2, ![32, 2048]⟩
abbrev S1024x1 : Shape := ⟨2, ![1024, 1]⟩
abbrev S3x2048 : Shape := ⟨2, ![3, 2048]⟩
abbrev S4x2048 : Shape := ⟨2, ![4, 2048]⟩
abbrev S1x32x1024 : Shape := ⟨3, ![1, 32, 1024]⟩
abbrev S32x1024 : Shape := ⟨2, ![32, 1024]⟩
abbrev S2048 : Shape := ⟨1, ![2048]⟩
abbrev S1x2048 : Shape := ⟨2, ![1, 2048]⟩
abbrev S40x2048 : Shape := ⟨2, ![40, 2048]⟩
abbrev S1x1024x40 : Shape := ⟨3, ![1, 1024, 40]⟩
abbrev S1024x40 : Shape := ⟨2, ![1024, 40]⟩
abbrev S1024x2048 : Shape := ⟨2, ![1024, 2048]⟩
abbrev S96x1024 : Shape := ⟨2, ![96, 1024]⟩
abbrev S96x2048 : Shape := ⟨2, ![96, 2048]⟩
abbrev S1x32x2048 : Shape := ⟨3, ![1, 32, 2048]⟩
abbrev S1 : Shape := ⟨1, ![1]⟩
abbrev S1x1x1 : Shape := ⟨3, ![1, 1, 1]⟩

abbrev nBuf : Space → Nat
  | .hbm => 25
  | .vmem => 7
  | .smem => 0
  | _ => 0

abbrev bufTy : (tb : Table) → Fin (tcTables nBuf tb) → BufTy
  | .hbm, ⟨0, _⟩ => ⟨S65536x32, .f32⟩
  | .hbm, ⟨1, _⟩ => ⟨S4x1024x32, .f32⟩
  | .hbm, ⟨2, _⟩ => ⟨S32x65536, .f32⟩
  | .hbm, ⟨3, _⟩ => ⟨S4x32x1024, .f32⟩
  | .hbm, ⟨4, _⟩ => ⟨S4x1024x32, .f32⟩
  | .hbm, ⟨5, _⟩ => ⟨S_, .f32⟩
  | .hbm, ⟨6, _⟩ => ⟨S4x1024, .f32⟩
  | .hbm, ⟨7, _⟩ => ⟨S4x1024x1, .f32⟩
  | .hbm, ⟨8, _⟩ => ⟨S4x1024x1, .bf16⟩
  | .hbm, ⟨9, _⟩ => ⟨S4x1024x1, .f32⟩
  | .hbm, ⟨10, _⟩ => ⟨S4x1024x1, .f32⟩
  | .hbm, ⟨11, _⟩ => ⟨S4x1024x1, .bf16⟩
  | .hbm, ⟨12, _⟩ => ⟨S4x1024x1, .f32⟩
  | .hbm, ⟨13, _⟩ => ⟨S4x1024x1, .f32⟩
  | .hbm, ⟨14, _⟩ => ⟨S4x1024x1, .bf16⟩
  | .hbm, ⟨15, _⟩ => ⟨S4x1024x32, .bf16⟩
  | .hbm, ⟨16, _⟩ => ⟨S_, .bf16⟩
  | .hbm, ⟨17, _⟩ => ⟨S4x1024x1, .bf16⟩
  | .hbm, ⟨18, _⟩ => ⟨S_, .bf16⟩
  | .hbm, ⟨19, _⟩ => ⟨S4x1024x4, .bf16⟩
  | .hbm, ⟨20, _⟩ => ⟨S4x1024x40, .bf16⟩
  | .hbm, ⟨21, _⟩ => ⟨S32x65536, .f32⟩
  | .hbm, ⟨22, _⟩ => ⟨S1x1, .f32⟩
  | .hbm, ⟨23, _⟩ => ⟨S65536x32, .f32⟩
  | .hbm, ⟨24, _⟩ => ⟨S_, .f32⟩
  | .local _ .vmem, ⟨0, _⟩ => ⟨S32x2048, .f32⟩
  | .local _ .vmem, ⟨1, _⟩ => ⟨S32x2048, .f32⟩
  | .local _ .vmem, ⟨2, _⟩ => ⟨S4x1024x40, .bf16⟩
  | .local _ .vmem, ⟨3, _⟩ => ⟨S4x32x1024, .f32⟩
  | .local _ .vmem, ⟨4, _⟩ => ⟨S32x2048, .f32⟩
  | .local _ .vmem, ⟨5, _⟩ => ⟨S32x2048, .f32⟩
  | .local _ .vmem, ⟨6, _⟩ => ⟨S1x1, .f32⟩
  | _, _ => ⟨S65536x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x40 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S65536x32 : Shape := ⟨2, ![65536, 32]⟩
abbrev S4x1024x32 : Shape := ⟨3, ![4, 1024, 32]⟩
abbrev S1x1024x32 : Shape := ⟨3, ![1, 1024, 32]⟩
abbrev S1024x32 : Shape := ⟨2, ![1024, 32]⟩
abbrev S_ : Shape := ⟨0, ![]⟩
abbrev S65536 : Shape := ⟨1, ![65536]⟩
abbrev S65536x1 : Shape := ⟨2, ![65536, 1]⟩
abbrev S32x1024 : Shape := ⟨2, ![32, 1024]⟩
abbrev S65536x1024 : Shape := ⟨2, ![65536, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S1x65536x32 : Shape := ⟨3, ![1, 65536, 32]⟩
abbrev S4x65536x32 : Shape := ⟨3, ![4, 65536, 32]⟩

abbrev nBuf : Space → Nat
  | .hbm => 270
  | .vmem => 0
  | .smem => 0
  | _ => 0

abbrev hbmTy0_0 (i : Nat) : BufTy := match i % 128 with
  | 0 => ⟨S65536x32, .f32⟩
  | 1 => ⟨S4x1024x32, .f32⟩
  | 2 => ⟨S1x1024x32, .f32⟩
  | 3 => ⟨S1024x32, .f32⟩
  | 4 => ⟨S65536x32, .f32⟩
  | 5 => ⟨S_, .f32⟩
  | 6 => ⟨S65536, .f32⟩
  | 7 => ⟨S65536x1, .f32⟩
  | 8 => ⟨S_, .f32⟩
  | 9 => ⟨S65536x32, .f32⟩
  | 10 => ⟨S65536x32, .f32⟩
  | 11 => ⟨S32x1024, .f32⟩
  | 12 => ⟨S65536x1024, .f32⟩
  | 13 => ⟨S65536x1024, .f32⟩
  | 14 => ⟨S65536x1024, .f32⟩
  | 15 => ⟨S1024x32, .f32⟩
  | 16 => ⟨S_, .f32⟩
  | 17 => ⟨S1024, .f32⟩
  | 18 => ⟨S1x1024, .f32⟩
  | 19 => ⟨S65536x1024, .f32⟩
  | 20 => ⟨S65536x1024, .f32⟩
  | 21 => ⟨S65536x1024, .i32⟩
  | 22 => ⟨S_, .f32⟩
  | 23 => ⟨S_, .i32⟩
  | 24 => ⟨S65536, .f32⟩
  | 25 => ⟨S65536, .i32⟩
  | 26 => ⟨S_, .i32⟩
  | 27 => ⟨S65536, .i32⟩
  | 28 => ⟨S65536, .i1⟩
  | 29 => ⟨S_, .i32⟩
  | 30 => ⟨S65536, .i32⟩
  | 31 => ⟨S65536, .i32⟩
  | 32 => ⟨S65536, .i32⟩
  | 33 => ⟨S65536x1, .i32⟩
  | 34 => ⟨S1, .i32⟩
  | 35 => ⟨S_, .i32⟩
  | 36 => ⟨S65536x1, .i32⟩
  | 37 => ⟨S65536x1, .i1⟩
  | 38 => ⟨S1x1, .i32⟩
  | 39 => ⟨S65536x1, .i32⟩
  | 40 => ⟨S65536x1, .i1⟩
  | 41 => ⟨S65536x1, .i1⟩
  | 42 => ⟨S_, .i1⟩
  | 43 => ⟨S65536, .i1⟩
  | 44 => ⟨S65536x32, .f32⟩
  | 45 => ⟨S65536x32, .i1⟩
  | 46 => ⟨S_, .f32⟩
  | 47 => ⟨S65536x32, .f32⟩
  | 48 => ⟨S65536x32, .f32⟩
  | 49 => ⟨S65536x32, .f32⟩
  | 50 => ⟨S65536x32, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S65536x32, .f32⟩
  | 58 => ⟨S65536x32, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S65536x32, .f32⟩
  | 66 => ⟨S65536x32, .f32⟩
  | 67 => ⟨S65536x32, .f32⟩
  | 68 => ⟨S1x1024x32, .f32⟩
  | 69 => ⟨S1024x32, .f32⟩
  | 70 => ⟨S65536x32, .f32⟩
  | 71 => ⟨S_, .f32⟩
  | 72 => ⟨S65536, .f32⟩
  | 73 => ⟨S65536x1, .f32⟩
  | 74 => ⟨S_, .f32⟩
  | 75 => ⟨S65536x32, .f32⟩
  | 76 => ⟨S65536x32, .f32⟩
  | 77 => ⟨S32x1024, .f32⟩
  | 78 => ⟨S65536x1024, .f32⟩
  | 79 => ⟨S65536x1024, .f32⟩
  | 80 => ⟨S65536x1024, .f32⟩
  | 81 => ⟨S1024x32, .f32⟩
  | 82 => ⟨S_, .f32⟩
  | 83 => ⟨S1024, .f32⟩
  | 84 => ⟨S1x1024, .f32⟩
  | 85 => ⟨S65536x1024, .f32⟩
  | 86 => ⟨S65536x1024, .f32⟩
  | 87 => ⟨S65536x1024, .i32⟩
  | 88 => ⟨S_, .f32⟩
  | 89 => ⟨S_, .i32⟩
  | 90 => ⟨S65536, .f32⟩
  | 91 => ⟨S65536, .i32⟩
  | 92 => ⟨S_, .i32⟩
  | 93 => ⟨S65536, .i32⟩
  | 94 => ⟨S65536, .i1⟩
  | 95 => ⟨S_, .i32⟩
  | 96 => ⟨S65536, .i32⟩
  | 97 => ⟨S65536, .i32⟩
  | 98 => ⟨S65536, .i32⟩
  | 99 => ⟨S65536x1, .i32⟩
  | 100 => ⟨S1, .i32⟩
  | 101 => ⟨S_, .i32⟩
  | 102 => ⟨S65536x1, .i32⟩
  | 103 => ⟨S65536x1, .i1⟩
  | 104 => ⟨S1x1, .i32⟩
  | 105 => ⟨S65536x1, .i32⟩
  | 106 => ⟨S65536x1, .i1⟩
  | 107 => ⟨S65536x1, .i1⟩
  | 108 => ⟨S_, .i1⟩
  | 109 => ⟨S65536, .i1⟩
  | 110 => ⟨S65536x32, .f32⟩
  | 111 => ⟨S65536x32, .i1⟩
  | 112 => ⟨S_, .f32⟩
  | 113 => ⟨S65536x32, .f32⟩
  | 114 => ⟨S65536x32, .f32⟩
  | 115 => ⟨S65536x32, .f32⟩
  | 116 => ⟨S65536x32, .f32⟩
  | 117 => ⟨S_, .f32⟩
  | 118 => ⟨S_, .f32⟩
  | 119 => ⟨S_, .f32⟩
  | 120 => ⟨S_, .f32⟩
  | 121 => ⟨S_, .f32⟩
  | 122 => ⟨S65536x32, .f32⟩
  | 123 => ⟨S65536x32, .f32⟩
  | 124 => ⟨S_, .f32⟩
  | 125 => ⟨S_, .f32⟩
  | 126 => ⟨S_, .f32⟩
  | 127 => ⟨S_, .f32⟩
  | _ => ⟨S65536x32, .f32⟩

abbrev hbmTy0_1 (i : Nat) : BufTy := match i % 128 with
  | 0 => ⟨S_, .f32⟩
  | 1 => ⟨S65536x32, .f32⟩
  | 2 => ⟨S65536x32, .f32⟩
  | 3 => ⟨S65536x32, .f32⟩
  | 4 => ⟨S1x1024x32, .f32⟩
  | 5 => ⟨S1024x32, .f32⟩
  | 6 => ⟨S65536x32, .f32⟩
  | 7 => ⟨S_, .f32⟩
  | 8 => ⟨S65536, .f32⟩
  | 9 => ⟨S65536x1, .f32⟩
  | 10 => ⟨S_, .f32⟩
  | 11 => ⟨S65536x32, .f32⟩
  | 12 => ⟨S65536x32, .f32⟩
  | 13 => ⟨S32x1024, .f32⟩
  | 14 => ⟨S65536x1024, .f32⟩
  | 15 => ⟨S65536x1024, .f32⟩
  | 16 => ⟨S65536x1024, .f32⟩
  | 17 => ⟨S1024x32, .f32⟩
  | 18 => ⟨S_, .f32⟩
  | 19 => ⟨S1024, .f32⟩
  | 20 => ⟨S1x1024, .f32⟩
  | 21 => ⟨S65536x1024, .f32⟩
  | 22 => ⟨S65536x1024, .f32⟩
  | 23 => ⟨S65536x1024, .i32⟩
  | 24 => ⟨S_, .f32⟩
  | 25 => ⟨S_, .i32⟩
  | 26 => ⟨S65536, .f32⟩
  | 27 => ⟨S65536, .i32⟩
  | 28 => ⟨S_, .i32⟩
  | 29 => ⟨S65536, .i32⟩
  | 30 => ⟨S65536, .i1⟩
  | 31 => ⟨S_, .i32⟩
  | 32 => ⟨S65536, .i32⟩
  | 33 => ⟨S65536, .i32⟩
  | 34 => ⟨S65536, .i32⟩
  | 35 => ⟨S65536x1, .i32⟩
  | 36 => ⟨S1, .i32⟩
  | 37 => ⟨S_, .i32⟩
  | 38 => ⟨S65536x1, .i32⟩
  | 39 => ⟨S65536x1, .i1⟩
  | 40 => ⟨S1x1, .i32⟩
  | 41 => ⟨S65536x1, .i32⟩
  | 42 => ⟨S65536x1, .i1⟩
  | 43 => ⟨S65536x1, .i1⟩
  | 44 => ⟨S_, .i1⟩
  | 45 => ⟨S65536, .i1⟩
  | 46 => ⟨S65536x32, .f32⟩
  | 47 => ⟨S65536x32, .i1⟩
  | 48 => ⟨S_, .f32⟩
  | 49 => ⟨S65536x32, .f32⟩
  | 50 => ⟨S65536x32, .f32⟩
  | 51 => ⟨S65536x32, .f32⟩
  | 52 => ⟨S65536x32, .f32⟩
  | 53 => ⟨S_, .f32⟩
  | 54 => ⟨S_, .f32⟩
  | 55 => ⟨S_, .f32⟩
  | 56 => ⟨S_, .f32⟩
  | 57 => ⟨S_, .f32⟩
  | 58 => ⟨S65536x32, .f32⟩
  | 59 => ⟨S65536x32, .f32⟩
  | 60 => ⟨S_, .f32⟩
  | 61 => ⟨S_, .f32⟩
  | 62 => ⟨S_, .f32⟩
  | 63 => ⟨S_, .f32⟩
  | 64 => ⟨S_, .f32⟩
  | 65 => ⟨S65536x32, .f32⟩
  | 66 => ⟨S65536x32, .f32⟩
  | 67 => ⟨S65536x32, .f32⟩
  | 68 => ⟨S1x1024x32, .f32⟩
  | 69 => ⟨S1024x32, .f32⟩
  | 70 => ⟨S65536x32, .f32⟩
  | 71 => ⟨S_, .f32⟩
  | 72 => ⟨S65536, .f32⟩
  | 73 => ⟨S65536x1, .f32⟩
  | 74 => ⟨S_, .f32⟩
  | 75 => ⟨S65536x32, .f32⟩
  | 76 => ⟨S65536x32, .f32⟩
  | 77 => ⟨S32x1024, .f32⟩
  | 78 => ⟨S65536x1024, .f32⟩
  | 79 => ⟨S65536x1024, .f32⟩
  | 80 => ⟨S65536x1024, .f32⟩
  | 81 => ⟨S1024x32, .f32⟩
  | 82 => ⟨S_, .f32⟩
  | 83 => ⟨S1024, .f32⟩
  | 84 => ⟨S1x1024, .f32⟩
  | 85 => ⟨S65536x1024, .f32⟩
  | 86 => ⟨S65536x1024, .f32⟩
  | 87 => ⟨S65536x1024, .i32⟩
  | 88 => ⟨S_, .f32⟩
  | 89 => ⟨S_, .i32⟩
  | 90 => ⟨S65536, .f32⟩
  | 91 => ⟨S65536, .i32⟩
  | 92 => ⟨S_, .i32⟩
  | 93 => ⟨S65536, .i32⟩
  | 94 => ⟨S65536, .i1⟩
  | 95 => ⟨S_, .i32⟩
  | 96 => ⟨S65536, .i32⟩
  | 97 => ⟨S65536, .i32⟩
  | 98 => ⟨S65536, .i32⟩
  | 99 => ⟨S65536x1, .i32⟩
  | 100 => ⟨S1, .i32⟩
  | 101 => ⟨S_, .i32⟩
  | 102 => ⟨S65536x1, .i32⟩
  | 103 => ⟨S65536x1, .i1⟩
  | 104 => ⟨S1x1, .i32⟩
  | 105 => ⟨S65536x1, .i32⟩
  | 106 => ⟨S65536x1, .i1⟩
  | 107 => ⟨S65536x1, .i1⟩
  | 108 => ⟨S_, .i1⟩
  | 109 => ⟨S65536, .i1⟩
  | 110 => ⟨S65536x32, .f32⟩
  | 111 => ⟨S65536x32, .i1⟩
  | 112 => ⟨S_, .f32⟩
  | 113 => ⟨S65536x32, .f32⟩
  | 114 => ⟨S65536x32, .f32⟩
  | 115 => ⟨S65536x32, .f32⟩
  | 116 => ⟨S65536x32, .f32⟩
  | 117 => ⟨S_, .f32⟩
  | 118 => ⟨S_, .f32⟩
  | 119 => ⟨S_, .f32⟩
  | 120 => ⟨S_, .f32⟩
  | 121 => ⟨S_, .f32⟩
  | 122 => ⟨S65536x32, .f32⟩
  | 123 => ⟨S65536x32, .f32⟩
  | 124 => ⟨S_, .f32⟩
  | 125 => ⟨S_, .f32⟩
  | 126 => ⟨S_, .f32⟩
  | 127 => ⟨S_, .f32⟩
  | _ => ⟨S65536x32, .f32⟩

abbrev hbmTy0_2 (i : Nat) : BufTy := match i % 128 with
  | 0 => ⟨S_, .f32⟩
  | 1 => ⟨S65536x32, .f32⟩
  | 2 => ⟨S65536x32, .f32⟩
  | 3 => ⟨S65536x32, .f32⟩
  | 4 => ⟨S1x65536x32, .f32⟩
  | 5 => ⟨S1x65536x32, .f32⟩
  | 6 => ⟨S1x65536x32, .f32⟩
  | 7 => ⟨S1x65536x32, .f32⟩
  | 8 => ⟨S4x65536x32, .f32⟩
  | 9 => ⟨S_, .f32⟩
  | 10 => ⟨S65536x32, .f32⟩
  | 11 => ⟨S_, .f32⟩
  | 12 => ⟨S_, .f32⟩
  | 13 => ⟨S_, .f32⟩
  | _ => ⟨S65536x32, .f32⟩

abbrev hbmTy (i : Nat) : BufTy := match i / 128 with
  | 0 => hbmTy0_0 i
  | 1 => hbmTy0_1 i
  | 2 => hbmTy0_2 i
  | _ => ⟨S65536x32, .f32⟩

abbrev bufTy : (tb : Table) → Fin (tcTables nBuf tb) → BufTy
  | .hbm, ⟨i, _⟩ => hbmTy i
  | _, _ => ⟨S65536x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_cst_7 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_8 : Ref sig .tc := ⟨.hbm, 71, rfl⟩
abbrev main_v34 : Ref sig .tc := ⟨.hbm, 72, rfl⟩
abbrev main_v35 : Ref sig .tc := ⟨.hbm, 73, rfl⟩
abbrev main_cst_9 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_10 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_call2_v0 : Ref sig .tc := ⟨.hbm, 87, rfl⟩
abbrev main_call2_cst : Ref sig .tc := ⟨.hbm, 88, rfl⟩
abbrev main_call2_c : Ref sig .tc := ⟨.hbm, 89, rfl⟩
abbrev main_call2_v1_0 : Ref sig .tc := ⟨.hbm, 90, rfl⟩
abbrev main_v47 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_cst_11 : Ref sig .tc := ⟨.hbm, 117, rfl⟩
abbrev main_v51 : Ref sig .tc := ⟨.hbm, 118, rfl⟩
abbrev main_cst_12 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_cst_13 : Ref sig .tc := ⟨.hbm, 124, rfl⟩
abbrev main_v56 : Ref sig .tc := ⟨.hbm, 125, rfl⟩
abbrev main_cst_14 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_cst_15 : Ref sig .tc := ⟨.hbm, 135, rfl⟩
abbrev main_v65 : Ref sig .tc := ⟨.hbm, 136, rfl⟩
abbrev main_v66 : Ref sig .tc := ⟨.hbm, 137, rfl⟩
abbrev main_cst_16 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_cst_17 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_call4_v0 : Ref sig .tc := ⟨.hbm, 151, rfl⟩
abbrev main_call4_cst : Ref sig .tc := ⟨.hbm, 152, rfl⟩
abbrev main_call4_c : Ref sig .tc := ⟨.hbm, 153, rfl⟩
abbrev main_call4_v1_0 : Ref sig .tc := ⟨.hbm, 154, rfl⟩
abbrev main_v78 : Ref sig .tc := ⟨.hbm, 155, rfl⟩
abbrev main_call5_c : Ref sig .tc := ⟨.hbm, 156, rfl⟩
abbrev main_call5_v0 : Ref sig .tc := ⟨.hbm, 157, rfl⟩
abbrev main_call5_v1 : Ref sig .tc := ⟨.hbm, 158, rfl⟩
abbrev main_call5_c_0 : Ref sig .tc := ⟨.hbm, 159, rfl⟩
abbrev main_call5_v2 : Ref sig .tc := ⟨.hbm, 160, rfl⟩
abbrev main_call5_v3 : Ref sig .tc := ⟨.hbm, 161, rfl⟩
abbrev main_call5_v4 : Ref sig .tc := ⟨.hbm, 162, rfl⟩
abbrev main_call5_v5 : Ref sig .tc := ⟨.hbm, 163, rfl⟩
abbrev main_call5_c_1 : Ref sig .tc := ⟨.hbm, 164, rfl⟩
abbrev main_call5_c_2 : Ref sig .tc := ⟨.hbm, 165, rfl⟩
abbrev main_call5_v6 : Ref sig .tc := ⟨.hbm, 166, rfl⟩
abbrev main_call5_v7 : Ref sig .tc := ⟨.hbm, 167, rfl⟩
abbrev main_call5_v8 : Ref sig .tc := ⟨.hbm, 168, rfl⟩
abbrev main_call5_v9 : Ref sig .tc := ⟨.hbm, 169, rfl⟩
abbrev main_call5_v10 : Ref sig .tc := ⟨.hbm, 170, rfl⟩
abbrev main_call5_v11 : Ref sig .tc := ⟨.hbm, 171, rfl⟩
abbrev main_call5_c_3 : Ref sig .tc := ⟨.hbm, 172, rfl⟩
abbrev main_call5_v12 : Ref sig .tc := ⟨.hbm, 173, rfl⟩
abbrev main_call5_v13 : Ref sig .tc := ⟨.hbm, 174, rfl⟩
abbrev main_call5_v14 : Ref sig .tc := ⟨.hbm, 175, rfl⟩
abbrev main_call5_cst : Ref sig .tc := ⟨.hbm, 176, rfl⟩
abbrev main_call5_v15 : Ref sig .tc := ⟨.hbm, 177, rfl⟩
abbrev main_v79 : Ref sig .tc := ⟨.hbm, 178, rfl⟩
abbrev main_v80 : Ref sig .tc := ⟨.hbm, 179, rfl⟩
abbrev main_v81 : Ref sig .tc := ⟨.hbm, 180, rfl⟩
abbrev main_cst_18 : Ref sig .tc := ⟨.hbm, 181, rfl⟩
abbrev main_v82 : Ref sig .tc := ⟨.hbm, 182, rfl⟩
abbrev main_cst_19 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_cst_20 : Ref sig .tc := ⟨.hbm, 188, rfl⟩
abbrev main_v87 : Ref sig .tc := ⟨.hbm, 189, rfl⟩
abbrev main_cst_21 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_cst_22 : Ref sig .tc := ⟨.hbm, 199, rfl⟩
abbrev main_v96 : Ref sig .tc := ⟨.hbm, 200, rfl⟩
abbrev main_v97 : Ref sig .tc := ⟨.hbm, 201, rfl⟩
abbrev main_cst_23 : Ref sig .tc := ⟨.hbm, 202, rfl⟩
abbrev main_v98 : Ref sig .tc := ⟨.hbm, 203, rfl⟩
abbrev main_v99 : Ref sig .tc := ⟨.hbm, 204, rfl⟩
abbrev main_v100 : Ref sig .tc := ⟨.hbm, 205, rfl⟩
abbrev main_v101 : Ref sig .tc := ⟨.hbm, 206, rfl⟩
abbrev main_v102 : Ref sig .tc := ⟨.hbm, 207, rfl⟩
abbrev main_v103 : Ref sig .tc := ⟨.hbm, 208, rfl⟩
abbrev main_v104 : Ref sig .tc := ⟨.hbm, 209, rfl⟩
abbrev main_cst_24 : Ref sig .tc := ⟨.hbm, 210, rfl⟩
abbrev main_v105 : Ref sig .tc := ⟨.hbm, 211, rfl⟩
abbrev main_v106 : Ref sig .tc := ⟨.hbm, 212, rfl⟩
abbrev main_v107 : Ref sig .tc := ⟨.hbm, 213, rfl⟩
abbrev main_v108 : Ref sig .tc := ⟨.hbm, 214, rfl⟩
abbrev main_call6_v0 : Ref sig .tc := ⟨.hbm, 215, rfl⟩
abbrev main_call6_cst : Ref sig .tc := ⟨.hbm, 216, rfl⟩
abbrev main_call6_c : Ref sig .tc := ⟨.hbm, 217, rfl⟩
abbrev main_call6_v1_0 : Ref sig .tc := ⟨.hbm, 218, rfl⟩
abbrev main_v109 : Ref sig .tc := ⟨.hbm, 219, rfl⟩
abbrev main_call7_c : Ref sig .tc := ⟨.hbm, 220, rfl⟩
abbrev main_call7_v0 : Ref sig .tc := ⟨.hbm, 221, rfl⟩
abbrev main_call7_v1 : Ref sig .tc := ⟨.hbm, 222, rfl⟩
abbrev main_call7_c_0 : Ref sig .tc := ⟨.hbm, 223, rfl⟩
abbrev main_call7_v2 : Ref sig .tc := ⟨.hbm, 224, rfl⟩
abbrev main_call7_v3 : Ref sig .tc := ⟨.hbm, 225, rfl⟩
abbrev main_call7_v4 : Ref sig .tc := ⟨.hbm, 226, rfl⟩
abbrev main_call7_v5 : Ref sig .tc := ⟨.hbm, 227, rfl⟩
abbrev main_call7_c_1 : Ref sig .tc := ⟨.hbm, 228, rfl⟩
abbrev main_call7_c_2 : Ref sig .tc := ⟨.hbm, 229, rfl⟩
abbrev main_call7_v6 : Ref sig .tc := ⟨.hbm, 230, rfl⟩
abbrev main_call7_v7 : Ref sig .tc := ⟨.hbm, 231, rfl⟩
abbrev main_call7_v8 : Ref sig .tc := ⟨.hbm, 232, rfl⟩
abbrev main_call7_v9 : Ref sig .tc := ⟨.hbm, 233, rfl⟩
abbrev main_call7_v10 : Ref sig .tc := ⟨.hbm, 234, rfl⟩
abbrev main_call7_v11 : Ref sig .tc := ⟨.hbm, 235, rfl⟩
abbrev main_call7_c_3 : Ref sig .tc := ⟨.hbm, 236, rfl⟩
abbrev main_call7_v12 : Ref sig .tc := ⟨.hbm, 237, rfl⟩
abbrev main_call7_v13 : Ref sig .tc := ⟨.hbm, 238, rfl⟩
abbrev main_call7_v14 : Ref sig .tc := ⟨.hbm, 239, rfl⟩
abbrev main_call7_cst : Ref sig .tc := ⟨.hbm, 240, rfl⟩
abbrev main_call7_v15 : Ref sig .tc := ⟨.hbm, 241, rfl⟩
abbrev main_v110 : Ref sig .tc := ⟨.hbm, 242, rfl⟩
abbrev main_v111 : Ref sig .tc := ⟨.hbm, 243, rfl⟩
abbrev main_v112 : Ref sig .tc := ⟨.hbm, 244, rfl⟩
abbrev main_cst_25 : Ref sig .tc := ⟨.hbm, 245, rfl⟩
abbrev main_v113 : Ref sig .tc := ⟨.hbm, 246, rfl⟩
abbrev main_cst_26 : Ref sig .tc := ⟨.hbm, 247, rfl⟩
abbrev main_v114 : Ref sig .tc := ⟨.hbm, 248, rfl⟩
abbrev main_v115 : Ref sig .tc := ⟨.hbm, 249, rfl⟩
abbrev main_v116 : Ref sig .tc := ⟨.hbm, 250, rfl⟩
abbrev main_v117 : Ref sig .tc := ⟨.hbm, 251, rfl⟩
abbrev main_cst_27 : Ref sig .tc := ⟨.hbm, 252, rfl⟩
abbrev main_v118 : Ref sig .tc := ⟨.hbm, 253, rfl⟩
abbrev main_cst_28 : Ref sig .tc := ⟨.hbm, 254, rfl⟩
abbrev main_v119 : Ref sig .tc := ⟨.hbm, 255, rfl⟩
abbrev main_v120 : Ref sig .tc := ⟨.hbm, 256, rfl⟩
abbrev main_v121 : Ref sig .tc := ⟨.hbm, 257, rfl⟩
abbrev main_v122 : Ref sig .tc := ⟨.hbm, 258, rfl⟩
abbrev main_v123 : Ref sig .tc := ⟨.hbm, 259, rfl⟩
abbrev main_v124 : Ref sig .tc := ⟨.hbm, 260, rfl⟩
abbrev main_v125 : Ref sig .tc := ⟨.hbm, 261, rfl⟩
abbrev main_v126 : Ref sig .tc := ⟨.hbm, 262, rfl⟩
abbrev main_v127 : Ref sig .tc := ⟨.hbm, 263, rfl⟩
abbrev main_v128 : Ref sig .tc := ⟨.hbm, 264, rfl⟩
abbrev main_cst_29 : Ref sig .tc := ⟨.hbm, 265, rfl⟩
abbrev main_v129 : Ref sig .tc := ⟨.hbm, 266, rfl⟩
abbrev main_cst_30 : Ref sig .tc := ⟨.hbm, 267, rfl⟩
abbrev main_v130 : Ref sig .tc := ⟨.hbm, 268, rfl⟩
abbrev main_v131 : Ref sig .tc := ⟨.hbm, 269, rfl⟩

abbrev nD : Nat := 1
abbrev τ : Topo := Topo.v7x

variable {F : FTy → Type} [FloatOps F]
-- ==== Proof.Stage.lean ====
/- One round of the kernel as functions of whole blocks, and the kernel's stored values written with
   them. -/
module

public import proofs.«01_k».proof.Proof.Gen.KernelIdeal.Skeleton
public import Idealize.ShloMosaic.Lib.Pointwise

@[expose] public section

set_option maxRecDepth 16384

noncomputable section

namespace Cert.KernelIdeal.Stage

open Idealize.ShloMosaic Cert.KernelIdeal Cert.KernelIdeal.Gen

variable {F : FTy → Type} [FloatOps F]

/-- The sum over the coordinates of a block's squares, one for each token, as a row. -/
def norms (r : FVec F S32x2048 .f32) : FVec F S1x2048 .f32 :=
  shapeCast S1x2048 (multiReduction .add [0] S2048 (mulf r r) 0x00000000#32 reduces_S32x2048_S2048 (.inl rfl) rfl) shapeCasts_S2048_S1x2048

/-- The right factor of the distances: minus twice the residuals, three rows of ones, the residuals'
    squared norms, four rows of zeros. -/
def column (r : FVec F S32x2048 .f32) : FVec F S40x2048 .bf16 :=
  concatenate S40x2048 0
    [⟨S32x2048, truncf .bf16 (mulf (broadcast S32x2048 (Scalar.ofBits .f32 0xC0000000#32)) r) bitsLt_bf16_f32⟩,
     ⟨S3x2048, broadcast S3x2048 (Scalar.ofBits .bf16 0x3F80#16)⟩,
     ⟨S1x2048, truncf .bf16 (norms r) bitsLt_bf16_f32⟩,
     ⟨S4x2048, broadcast S4x2048 (Scalar.ofBits .bf16 0x0000#16)⟩]
    concatenates_S32x2048_S3x2048_S1x2048_S4x2048_S40x2048_d0

/-- The distances of a block's residuals to the words of one code book. -/
def scores (r : FVec F S32x2048 .f32) (c : Vec F S1x1024x40 .bf16) : FVec F S1024x2048 .f32 :=
  matmul dot_S1024x40_S40x2048_S1024x2048_1_0_0_1_n_n none (shapeCast S1024x40 c shapeCasts_S1x1024x40_S1024x40) (column r)
    (constant S1024x2048 .f32 0x00000000#32)

/-- The least entry of every column, on every row. -/
def least (D : FVec F S1024x2048 .f32) : FVec F S1024x2048 .f32 :=
  broadcastTo S1024x2048
    (shapeCast S1x2048 (multiReduction .minimumf [0] S2048 D 0x7F800000#32 reduces_S1024x2048_S2048 (.inl rfl) rfl) shapeCasts_S2048_S1x2048)
    broadcasts_S1x2048_S1024x2048

/-- The positions of a code book's words, as floats. -/
def places : FVec F S1024x1 .f32 := sitofp .f32 (iota .tc S1024x1 32 [0] iota_S1024x1_d0_w32)

/-- The positions of the least entries, and 1024 elsewhere. -/
def candidates (M : IVec S1024x2048 1) : FVec F S1024x2048 .f32 :=
  select M (broadcastTo S1024x2048 (shapeCast S1024x1 (places (F := F)) shapeCasts_S1024x1_S1024x1) broadcasts_S1024x1_S1024x2048)
    (broadcast S1024x2048 (Scalar.ofBits .f32 0x44800000#32))

/-- Whether a row is its column's least candidate, as a word. -/
def picked (S : FVec F S1024x2048 .f32) : IVec S1024x2048 32 :=
  extui 32 (cmpf .oeq (broadcastTo S1024x2048 (places (F := F)) broadcasts_S1024x1_S1024x2048) (least S)) natLt_1_32

/-- The marks as the numbers zero and one. -/
def marks (P : IVec S1024x2048 32) : FVec F S1024x2048 .bf16 := truncf .bf16 (sitofp .f32 P) bitsLt_bf16_f32

/-- What rounding leaves of a code book. -/
def rest (W : FVec F S32x1024 .f32) : FVec F S32x1024 .f32 := subf W (extf .f32 (truncf .bf16 W bitsLt_bf16_f32) bitsLt_bf16_f32)

/-- The code book in three parts, one below the other. -/
def parts (W : FVec F S32x1024 .f32) : FVec F S96x1024 .bf16 :=
  concatenate S96x1024 0
    [⟨S32x1024, truncf .bf16 W bitsLt_bf16_f32⟩, ⟨S32x1024, truncf .bf16 (rest W) bitsLt_bf16_f32⟩, ⟨S32x1024, truncf .bf16 (rest (rest W)) bitsLt_bf16_f32⟩]
    concatenates_S32x1024_S32x1024_S32x1024_S96x1024_d0

/-- The parts of the marked words. -/
def taken (W : FVec F S32x1024 .f32) (H : FVec F S1024x2048 .bf16) : FVec F S96x2048 .f32 :=
  matmul dot_S96x1024_S1024x2048_S96x2048_1_0_0_1_n_n none (parts W) H (constant S96x2048 .f32 0x00000000#32)

/-- The marked words: the three parts added. -/
def look (W : FVec F S32x1024 .f32) (H : FVec F S1024x2048 .bf16) : FVec F S32x2048 .f32 :=
  addf
    (addf (extractStridedSlice S32x2048 ![0, 0] (taken W H) slices_S96x2048_o0_0_S32x2048)
      (extractStridedSlice S32x2048 ![32, 0] (taken W H) slices_S96x2048_o32_0_S32x2048))
    (extractStridedSlice S32x2048 ![64, 0] (taken W H) slices_S96x2048_o64_0_S32x2048)

/-- One code book out of the stack, as a matrix. -/
def book (v : Vec F S1x32x1024 .f32) : FVec F S32x1024 .f32 := shapeCast S32x1024 v shapeCasts_S1x32x1024_S32x1024

/-- Where the distances of a column are least. -/
def atLeast (r : FVec F S32x2048 .f32) (c : Vec F S1x1024x40 .bf16) : IVec S1024x2048 1 := cmpf .ole (scores r c) (least (scores r c))

/-- The candidates for the nearest word's position. -/
def cands (r : FVec F S32x2048 .f32) (c : Vec F S1x1024x40 .bf16) : FVec F S1024x2048 .f32 := candidates (atLeast r c)

/-- The nearest word's mark, as a word. -/
def ticks (r : FVec F S32x2048 .f32) (c : Vec F S1x1024x40 .bf16) : IVec S1024x2048 32 := picked (cands r c)

/-- The nearest word's mark, as a number. -/
def hot (r : FVec F S32x2048 .f32) (c : Vec F S1x1024x40 .bf16) : FVec F S1024x2048 .bf16 := marks (ticks r c)

/-- The words nearest to a block's residuals. -/
def words (r : FVec F S32x2048 .f32) (c : Vec F S1x1024x40 .bf16) (v : Vec F S1x32x1024 .f32) : FVec F S32x2048 .f32 :=
  look (book v) (hot r c)

/-- The residuals after one round. -/
def after (r : FVec F S32x2048 .f32) (c : Vec F S1x1024x40 .bf16) (v : Vec F S1x32x1024 .f32) : FVec F S32x2048 .f32 :=
  subf r (words r c v)

/-- The sum of all squares of a block. -/
def total (r : FVec F S32x2048 .f32) : FVec F S1x1 .f32 :=
  broadcast S1x1 (extractAt ![0, 0, 0]
    (shapeCast S1x1x1 (multiReduction .add [1, 2] S1 (shapeCast S1x32x2048 (mulf r r) shapeCasts_S32x2048_S1x32x2048) 0x00000000#32 reduces_S1x32x2048_S1 (.inl rfl) rfl)
      shapeCasts_S1_S1x1x1) inpos_S1x1x1_p0_0_0)

/-- The block of sums of words. -/
def blockSum (r : FVec F S32x2048 .f32) (c0 c1 c2 c3 : Vec F S1x1024x40 .bf16) (v0 v1 v2 v3 : Vec F S1x32x1024 .f32) : FVec F S32x2048 .f32 :=
  addf (addf (addf (addf (broadcast S32x2048 (Scalar.ofBits .f32 0x00000000#32)) (words r c0 v0)) (words (after r c0 v0) c1 v1))
    (words (after (after r c0 v0) c1 v1) c2 v2)) (words (after (after (after r c0 v0) c1 v1) c2 v2) c3 v3)

/-- The block's contribution to the loss, before scaling. -/
def blockLoss (r : FVec F S32x2048 .f32) (c0 c1 c2 c3 : Vec F S1x1024x40 .bf16) (v0 v1 v2 v3 : Vec F S1x32x1024 .f32) : FVec F S1x1 .f32 :=
  addf (addf (addf (addf (broadcast S1x1 (Scalar.ofBits .f32 0x00000000#32)) (total (after r c0 v0))) (total (after (after r c0 v0) c1 v1)))
    (total (after (after (after r c0 v0) c1 v1) c2 v2))) (total (after (after (after (after r c0 v0) c1 v1) c2 v2) c3 v3))

/-- One step of the loss: the scaled contribution is added to what was there. -/
def stepLoss (L acc : FVec F S1x1 .f32) : FVec F S1x1 .f32 := addf acc (mulf L (broadcast S1x1 (Scalar.ofBits .f32 0x35200000#32)))

/-! ## The kernel's stored values -/

section Stored

variable (r s : FVec F S32x2048 .f32) (l : FVec F S1x1 .f32) (c c' : Vec F S1x1024x40 .bf16) (v : Vec F S1x32x1024 .f32)

/-- The body's block of tokens is what it loads. -/
theorem pay1_eq (x : Vec F S32x2048 .f32) : k0_pay1 x = x := shapeCast_self _ _
/-- The body's value 8 is the nearest words' marks, as numbers. -/
theorem pay8_eq : k0_pay8 r c = hot (k0_pay1 r) c := rfl
/-- The body's value 13 is the residuals after a round. -/
theorem pay13_eq : k0_pay13 r (hot r c) (k0_pay9 v) (k0_pay10 v) (k0_pay11 v) = after r c v := rfl
/-- The body's value 14 is the sum of words with a round's words added. -/
theorem pay14_eq : k0_pay14 s (hot r c) (k0_pay9 v) (k0_pay10 v) (k0_pay11 v) = addf s (words r c v) := rfl
/-- The body's value 15 is the loss with a round's squared residuals added. -/
theorem pay15_eq : k0_pay15 r l (hot r c) (k0_pay9 v) (k0_pay10 v) (k0_pay11 v) = addf l (total (after r c v)) := rfl
/-- The body's value 16 is a code book as a matrix. -/
theorem pay16_eq : k0_pay16 v = book v := rfl
/-- The body's value 17 is the next round's marks, as words. -/
theorem pay17_eq : k0_pay17 r k0_pay4 k0_pay5 k0_pay6 (hot r c) (k0_pay9 v) (k0_pay10 v) (k0_pay11 v) c' = ticks (after r c v) c' := rfl
/-- The body's value 19 is the residuals after a round. -/
theorem pay19_eq : k0_pay19 r (book v) (ticks r c) = after r c v := rfl
/-- The body's value 20 is the sum of words with a round's words added. -/
theorem pay20_eq : k0_pay20 s (book v) (ticks r c) = addf s (words r c v) := rfl
/-- The body's value 21 is the loss with a round's squared residuals added. -/
theorem pay21_eq : k0_pay21 r l (book v) (ticks r c) = addf l (total (after r c v)) := rfl
/-- The body's value 22 is a code book as a matrix. -/
theorem pay22_eq : k0_pay22 v = book v := rfl
/-- The body's value 23 is the next round's candidates. -/
theorem pay23_eq : k0_pay23 k0_pay4 k0_pay5 k0_pay6 r (book v) (ticks r c) c' = cands (after r c v) c' := rfl
/-- The body's value 25 is the residuals after a round. -/
theorem pay25_eq : k0_pay25 k0_pay4 r (book v) (cands r c) = after r c v := rfl
/-- The body's value 26 is the sum of words with a round's words added. -/
theorem pay26_eq : k0_pay26 k0_pay4 s (book v) (cands r c) = addf s (words r c v) := rfl
/-- The body's value 27 is the loss with a round's squared residuals added. -/
theorem pay27_eq : k0_pay27 k0_pay4 r l (book v) (cands r c) = addf l (total (after r c v)) := rfl
/-- The body's value 28 is a code book as a matrix. -/
theorem pay28_eq : k0_pay28 v = book v := rfl
/-- The body's value 29 is where the next round's distances are least. -/
theorem pay29_eq : k0_pay29 k0_pay4 k0_pay5 k0_pay6 r (book v) (cands r c) c' = atLeast (after r c v) c' := rfl
/-- The body's value 31 is the sum of words with a round's words added. -/
theorem pay31_eq : k0_pay31 k0_pay4 s (book v) (atLeast r c) = addf s (words r c v) := rfl
/-- The stored loss is what was there plus the scaled sum, with the last round's squared residuals added. -/
theorem pay33_eq (a : FVec F S1x1 .f32) : k0_pay33 k0_pay4 r l (book v) (atLeast r c) a = stepLoss (addf l (total (after r c v))) a := by
  unfold k0_pay33
  simp only [shapeCast_self]
  rfl

end Stored

end Cert.KernelIdeal.Stage

end
-- ==== Proof.Block.lean ====
/- What one grid point leaves in its two staging buffers: one round of the kernel after another. -/
module

public import proofs.«01_k».proof.Proof.Gen.KernelIdeal.Frame
public import proofs.«01_k».proof.Proof.Stage

@[expose] public section

set_option maxRecDepth 16384

noncomputable section

namespace Cert.KernelIdeal.Stage

open Idealize.ShloMosaic Cert.KernelIdeal Cert.KernelIdeal.Gen

variable {F : FTy → Type} [FloatOps F]

/-- The pair of zeros is the function that is zero everywhere. -/
theorem hz2 : (![0, 0] : Fin 2 → Nat) = fun _ => 0 := funext fun a => by fin_cases a <;> rfl

/-- Augmented code book 0 out of the stack. -/
def aug0 (x1 : Vec F S4x1024x40 .bf16) : Vec F S1x1024x40 .bf16 :=
  View.ld x1 (Rect.unit (s := S4x1024x40) ![0, 0, 0] S1x1024x40.size inb_S4x1024x40_S1x1024x40_0_0_0)

/-- Code book 0 out of the stack of transposed code books. -/
def slab0 (x2 : Vec F S4x32x1024 .f32) : Vec F S1x32x1024 .f32 :=
  View.ld x2 (Rect.unit (s := S4x32x1024) ![0, 0, 0] S1x32x1024.size inb_S4x32x1024_S1x32x1024_0_0_0)

/-- Augmented code book 1 out of the stack. -/
def aug1 (x1 : Vec F S4x1024x40 .bf16) : Vec F S1x1024x40 .bf16 :=
  View.ld x1 (Rect.unit (s := S4x1024x40) ![1, 0, 0] S1x1024x40.size inb_S4x1024x40_S1x1024x40_1_0_0)

/-- Code book 1 out of the stack of transposed code books. -/
def slab1 (x2 : Vec F S4x32x1024 .f32) : Vec F S1x32x1024 .f32 :=
  View.ld x2 (Rect.unit (s := S4x32x1024) ![1, 0, 0] S1x32x1024.size inb_S4x32x1024_S1x32x1024_1_0_0)

/-- Augmented code book 2 out of the stack. -/
def aug2 (x1 : Vec F S4x1024x40 .bf16) : Vec F S1x1024x40 .bf16 :=
  View.ld x1 (Rect.unit (s := S4x1024x40) ![2, 0, 0] S1x1024x40.size inb_S4x1024x40_S1x1024x40_2_0_0)

/-- Code book 2 out of the stack of transposed code books. -/
def slab2 (x2 : Vec F S4x32x1024 .f32) : Vec F S1x32x1024 .f32 :=
  View.ld x2 (Rect.unit (s := S4x32x1024) ![2, 0, 0] S1x32x1024.size inb_S4x32x1024_S1x32x1024_2_0_0)

/-- Augmented code book 3 out of the stack. -/
def aug3 (x1 : Vec F S4x1024x40 .bf16) : Vec F S1x1024x40 .bf16 :=
  View.ld x1 (Rect.unit (s := S4x1024x40) ![3, 0, 0] S1x1024x40.size inb_S4x1024x40_S1x1024x40_3_0_0)

/-- Code book 3 out of the stack of transposed code books. -/
def slab3 (x2 : Vec F S4x32x1024 .f32) : Vec F S1x32x1024 .f32 :=
  View.ld x2 (Rect.unit (s := S4x32x1024) ![3, 0, 0] S1x32x1024.size inb_S4x32x1024_S1x32x1024_3_0_0)

/-- The block of sums of words that a point stores. -/
def sums (x0 : Vec F S32x2048 .f32) (x1 : Vec F S4x1024x40 .bf16) (x2 : Vec F S4x32x1024 .f32) : Vec F S32x2048 .f32 :=
  blockSum x0 (aug0 x1) (aug1 x1) (aug2 x1) (aug3 x1) (slab0 x2) (slab1 x2) (slab2 x2) (slab3 x2)

/-- The point's contribution to the loss. -/
def share (x0 : Vec F S32x2048 .f32) (x1 : Vec F S4x1024x40 .bf16) (x2 : Vec F S4x32x1024 .f32) : Vec F S1x1 .f32 :=
  blockLoss x0 (aug0 x1) (aug1 x1) (aug2 x1) (aug3 x1) (slab0 x2) (slab1 x2) (slab2 x2) (slab3 x2)

/-- The first point stores the block of sums. -/
theorem out_A_3 (c : Dev nD) (i : grid0.Coords) (arg1 : Memref sig .tc .vmem S32x2048 .f32) (harg1 : arg1.IsWhole)
    (arg2 : Memref sig .tc .vmem S4x1024x40 .bf16) (harg2 : arg2.IsWhole) (arg3 : Memref sig .tc .vmem S4x32x1024 .f32) (harg3 : arg3.IsWhole)
    (arg4 : Memref sig .tc .vmem S32x2048 .f32) (harg4 : arg4.IsWhole) (arg5 : Memref sig .tc .vmem S1x1 .f32) (harg5 : arg5.IsWhole)
    (hc0 : cond0_0 i) (x0 : Vec F S32x2048 .f32) (x1 : Vec F S4x1024x40 .bf16) (x2 : Vec F S4x32x1024 .f32) :
    out0_A_3 c i arg1 harg1 arg2 harg2 arg3 harg3 arg4 harg4 arg5 harg5 hc0 x0 x1 x2 = sums x0 x1 x2 := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  rw [View.canon_unit_zero hz2]
  simp only [View.readAt_eq_ld, harg1.read_unread, harg2.read_unread, harg3.read_unread, View.ld_unit_zero (S := S32x2048) hz2,
    pay8_eq, pay13_eq, pay14_eq, pay15_eq, pay16_eq, pay17_eq, pay19_eq, pay20_eq, pay21_eq, pay22_eq, pay23_eq, pay25_eq, pay26_eq,
    pay27_eq, pay28_eq, pay29_eq, pay31_eq, pay33_eq]
  simp only [pay1_eq]
  rfl

/-- The first point starts the loss at zero and adds its contribution. -/
theorem out_A_4 (c : Dev nD) (i : grid0.Coords) (arg1 : Memref sig .tc .vmem S32x2048 .f32) (harg1 : arg1.IsWhole)
    (arg2 : Memref sig .tc .vmem S4x1024x40 .bf16) (harg2 : arg2.IsWhole) (arg3 : Memref sig .tc .vmem S4x32x1024 .f32) (harg3 : arg3.IsWhole)
    (arg4 : Memref sig .tc .vmem S32x2048 .f32) (harg4 : arg4.IsWhole) (arg5 : Memref sig .tc .vmem S1x1 .f32) (harg5 : arg5.IsWhole)
    (hc0 : cond0_0 i) (x0 : Vec F S32x2048 .f32) (x1 : Vec F S4x1024x40 .bf16) (x2 : Vec F S4x32x1024 .f32) :
    out0_A_4 c i arg1 harg1 arg2 harg2 arg3 harg3 arg4 harg4 arg5 harg5 hc0 x0 x1 x2 = stepLoss (share x0 x1 x2) (broadcast S1x1 (Scalar.ofBits .f32 0x00000000#32)) := by
  unfold out0_A_4
  rw [View.read_writes_eq_canon _ _ _ (cover0_A_4 c i arg1 harg1 arg2 harg2 arg3 harg3 arg4 harg4 arg5 harg5 hc0 x0 x1 x2)]
  unfold kernelRun0_A
  dsimp only
  sl_unfold_words
  rw [View.canon_cons_unit_zero (S := S1x1) hz2, View.readCov_unit_zero (S := S1x1) _ hz2]
  simp only [View.readAt_eq_ld, harg1.read_unread, harg2.read_unread, harg3.read_unread, View.ld_unit_zero (S := S32x2048) hz2,
    pay8_eq, pay13_eq, pay14_eq, pay15_eq, pay16_eq, pay17_eq, pay19_eq, pay20_eq, pay21_eq, pay22_eq, pay23_eq, pay25_eq, pay26_eq,
    pay27_eq, pay28_eq, pay29_eq, pay31_eq, pay33_eq]
  simp only [pay1_eq]
  rfl

/-- Every later point stores the block of sums. -/
theorem out_B_3 (c : Dev nD) (i : grid0.Coords) (arg1 : Memref sig .tc .vmem S32x2048 .f32) (harg1 : arg1.IsWhole)
    (arg2 : Memref sig .tc .vmem S4x1024x40 .bf16) (harg2 : arg2.IsWhole) (arg3 : Memref sig .tc .vmem S4x32x1024 .f32) (harg3 : arg3.IsWhole)
    (arg4 : Memref sig .tc .vmem S32x2048 .f32) (harg4 : arg4.IsWhole) (arg5 : Memref sig .tc .vmem S1x1 .f32) (harg5 : arg5.IsWhole)
    (hc0 : ¬cond0_0 i) (x0 : Vec F S32x2048 .f32) (x1 : Vec F S4x1024x40 .bf16) (x2 : Vec F S4x32x1024 .f32) (xo4 : Vec F S1x1 .f32) :
    out0_B_3 c i arg1 harg1 arg2 harg2 arg3 harg3 arg4 harg4 arg5 harg5 hc0 x0 x1 x2 xo4 = sums x0 x1 x2 := by
  unfold out0_B_3
  rw [View.read_writes_eq_canon _ _ _ (cover0_B_3 c i arg1 harg1 arg2 harg2 arg3 harg3 arg4 harg4 arg5 harg5 hc0 x0 x1 x2 xo4)]
  unfold kernelRun0_B
  dsimp only
  sl_unfold_words
  rw [View.canon_unit_zero hz2]
  simp only [View.readAt_eq_ld, harg1.read_unread, harg2.read_unread, harg3.read_unread, View.ld_unit_zero (S := S32x2048) hz2,
    pay8_eq, pay13_eq, pay14_eq, pay15_eq, pay16_eq, pay17_eq, pay19_eq, pay20_eq, pay21_eq, pay22_eq, pay23_eq, pay25_eq, pay26_eq,
    pay27_eq, pay28_eq, pay29_eq, pay31_eq, pay33_eq]
  simp only [pay1_eq]
  rfl

/-- Every later point adds its contribution to the loss so far. -/
theorem out_B_4 (c : Dev nD) (i : grid0.Coords) (arg1 : Memref sig .tc .vmem S32x2048 .f32) (harg1 : arg1.IsWhole)
    (arg2 : Memref sig .tc .vmem S4x1024x40 .bf16) (harg2 : arg2.IsWhole) (arg3 : Memref sig .tc .vmem S4x32x1024 .f32) (harg3 : arg3.IsWhole)
    (arg4 : Memref sig .tc .vmem S32x2048 .f32) (harg4 : arg4.IsWhole) (arg5 : Memref sig .tc .vmem S1x1 .f32) (harg5 : arg5.IsWhole)
    (hc0 : ¬cond0_0 i) (x0 : Vec F S32x2048 .f32) (x1 : Vec F S4x1024x40 .bf16) (x2 : Vec F S4x32x1024 .f32) (xo4 : Vec F S1x1 .f32) :
    out0_B_4 c i arg1 harg1 arg2 harg2 arg3 harg3 arg4 harg4 arg5 harg5 hc0 x0 x1 x2 xo4 = stepLoss (share x0 x1 x2) xo4 := by
  unfold out0_B_4
  rw [View.read_writes_eq_canon _ _ _ (cover0_B_4 c i arg1 harg1 arg2 harg2 arg3 harg3 arg4 harg4 arg5 harg5 hc0 x0 x1 x2 xo4)]
  unfold kernelRun0_B
  dsimp only
  sl_unfold_words
  rw [View.canon_unit_zero hz2]
  simp only [View.readAt_eq_ld, harg1.read_unread, harg2.read_unread, harg3.read_unread, View.ld_unit_zero (S := S32x2048) hz2, harg5.read_unread, View.ld_unit_zero (S := S1x1) hz2,
    pay8_eq, pay13_eq, pay14_eq, pay15_eq, pay16_eq, pay17_eq, pay19_eq, pay20_eq, pay21_eq, pay22_eq, pay23_eq, pay25_eq, pay26_eq,
    pay27_eq, pay28_eq, pay29_eq, pay31_eq, pay33_eq]
  simp only [pay1_eq]
  rfl

end Cert.KernelIdeal.Stage

end
-- ==== Proof.Quant.lean ====
/- Residual vector quantisation over the reals: what the kernel and the reference both compute. A token `r` of 32 coordinates
   is replaced by the nearest of 1024 code words (the first one, where several are nearest), and what is left over goes to the
   next code book. Nothing here mentions a program. -/
module

public import Idealize.ShloMosaic.PureOps.Ideal.Laws

@[expose] public section

noncomputable section

namespace Quantizer

open scoped BigOperators

/-- A token: 32 coordinates. -/
abbrev Token := Fin 32 → ℝ
/-- A code book: 1024 words. -/
abbrev Book := Fin 1024 → Token

/-- The squared length. -/
def sq (v : Token) : ℝ := ∑ d, v d * v d

/-- The squared distance of `r` to word `k`, multiplied out. -/
def dist (r : Token) (W : Book) (k : Fin 1024) : ℝ := sq r - ∑ d, 2 * r d * W k d + sq (W k)

/-- `k` is the first position at which `f` is smallest. -/
def IsFirst (f : Fin 1024 → ℝ) (k : Fin 1024) : Prop := ∀ j, f k ≤ f j ∧ (j < k → f k < f j)

/-- Every real function on the 1024 positions has a first position of its least value. -/
theorem exists_first (f : Fin 1024 → ℝ) : ∃ k, IsFirst f k := by
  obtain ⟨a, ha⟩ := Finite.exists_min f
  have hne : (Finset.univ.filter fun k => ∀ j, f k ≤ f j).Nonempty := ⟨a, by simpa using ha⟩
  refine ⟨(Finset.univ.filter fun k => ∀ j, f k ≤ f j).min' hne, fun j => ?_⟩
  have hm := Finset.min'_mem _ hne
  simp only [Finset.mem_filter, Finset.mem_univ, true_and] at hm
  refine ⟨hm j, fun hj => lt_of_le_of_ne (hm j) fun e => ?_⟩
  refine absurd (Finset.min'_le (Finset.univ.filter fun k => ∀ j, f k ≤ f j) j ?_) (not_le.mpr hj)
  simp only [Finset.mem_filter, Finset.mem_univ, true_and]
  exact fun i => e ▸ hm i

/-- The first position at which `f` is smallest. -/
def first (f : Fin 1024 → ℝ) : Fin 1024 := (exists_first f).choose

/-- `first f` is the first position of the least value of f. -/
theorem first_spec (f : Fin 1024 → ℝ) : IsFirst f (first f) := (exists_first f).choose_spec

/-- There is only one first smallest position. -/
theorem eq_first {f : Fin 1024 → ℝ} {k : Fin 1024} (hk : IsFirst f k) : k = first f := by
  have h := first_spec f
  rcases lt_trichotomy k (first f) with hlt | he | hgt
  · exact absurd ((h k).2 hlt) (not_lt.mpr (hk _).1)
  · exact he
  · exact absurd ((hk _).2 hgt) (not_lt.mpr (h k).1)

/-- The nearest word's position. -/
def near (r : Token) (W : Book) : Fin 1024 := first (dist r W)

/-- What is left of the token once its nearest word is taken away. -/
def next (r : Token) (W : Book) : Token := fun d => r d - W (near r W) d

/-- What is left of the token `x` before round `i`. -/
def resid (x : Token) (C : Fin 4 → Book) : ℕ → Token
  | 0 => x
  | i + 1 => next (resid x C i) (C (Fin.ofNat 4 i))

/-- The word chosen in round `i`. -/
def word (x : Token) (C : Fin 4 → Book) (i : ℕ) : Token := C (Fin.ofNat 4 i) (near (resid x C i) (C (Fin.ofNat 4 i)))

/-- The quantised token: the four words added up. -/
def quantised (x : Token) (C : Fin 4 → Book) : Token := fun d => word x C 0 d + word x C 1 d + word x C 2 d + word x C 3 d

/-- A token's share of the loss: the squared lengths of what is left after each round. -/
def excess (x : Token) (C : Fin 4 → Book) : ℝ :=
  sq (resid x C 1) + sq (resid x C 2) + sq (resid x C 3) + sq (resid x C 4)

/-- The loss: the mean over all coordinates, once for the code books and a quarter again for the commitment. -/
def loss (X : Fin 65536 → Token) (C : Fin 4 → Book) : ℝ := (∑ t, excess (X t) C) * (1.25 / 2097152)

end Quantizer

end
-- ==== Proof.Lift.lean ====
/- Arrays of real numbers as arrays of the programs: an extended real at each index. -/
module

public import Idealize.ShloMosaic.Lib.Pointwise
public import Idealize.ShloMosaic.Lib.IdealHost
public import proofs.«01_k».proof.Proof.Quant

@[expose] public section

noncomputable section

namespace Quantizer

open Idealize.ShloMosaic
open scoped BigOperators

/-- A matrix of reals. -/
def lift {n k : ℕ} (X : Fin n → Fin k → ℝ) : FVec Ideal ⟨2, ![n, k]⟩ .f32 := fun j => ((X (j 0) (j 1) : ℝ) : EReal)

/-- A stack of matrices of reals. -/
def lift3 {l n k : ℕ} (X : Fin l → Fin n → Fin k → ℝ) : FVec Ideal ⟨3, ![l, n, k]⟩ .f32 := fun j => ((X (j 0) (j 1) (j 2) : ℝ) : EReal)

/-- A finite sum of reals, in the extended reals. -/
theorem coe_sum {ι : Type} (s : Finset ι) (f : ι → ℝ) : ((∑ i ∈ s, f i : ℝ) : EReal) = ∑ i ∈ s, (f i : EReal) := by
  induction s using Finset.cons_induction with
  | empty => simp
  | cons a s h ih => rw [Finset.sum_cons, Finset.sum_cons, EReal.coe_add, ih]

end Quantizer

end
-- ==== Proof.Round.lean ====
/- One round of the kernel at arrays of reals: the distances, the first nearest word, its look-up. -/
module

public import proofs.«01_k».proof.Proof.Stage
public import proofs.«01_k».proof.Proof.Lift

@[expose] public section

set_option maxRecDepth 16384

noncomputable section

namespace Cert.KernelIdeal.Stage

open Idealize.ShloMosaic Cert.KernelIdeal Cert.KernelIdeal.Gen Quantizer
open scoped BigOperators

/-- A block of tokens, one to a column. -/
def block {n k : ℕ} (R : Fin n → Fin k → ℝ) : FVec Ideal ⟨2, ![k, n]⟩ .f32 := fun j => ((R (j 1) (j 0) : ℝ) : EReal)

/-- A word of a code book, its squared length beside it, and a one: the row that the kernel multiplies by. -/
def augmented (W : Book) (k : Fin 1024) (e : Fin 40) : ℝ :=
  if h : e.val < 32 then W k ⟨e.val, h⟩ else if e.val < 33 then sq (W k) else if e.val < 35 then 0 else if e.val < 36 then 1 else 0

/-- Minus twice a token, ones, its squared length: the column that the kernel multiplies by. -/
def doubled (r : Token) (e : Fin 40) : ℝ :=
  if h : e.val < 32 then -2 * r ⟨e.val, h⟩ else if e.val < 35 then 1 else if e.val < 36 then sq r else 0

/-- The row times the column is the squared distance, multiplied out. -/
theorem augmented_doubled (r : Token) (W : Book) (k : Fin 1024) : ∑ e, augmented W k e * doubled r e = Quantizer.dist r W k := by
  have h := Fin.sum_univ_add (a := 32) (b := 8) fun e : Fin 40 => augmented W k e * doubled r e
  refine h.trans ?_
  rw [Fin.sum_univ_eight]
  have h1 : ∀ d : Fin 32, augmented W k (Fin.castAdd 8 d) * doubled r (Fin.castAdd 8 d) = -(2 * r d * W k d) := by
    intro d
    have hd : (Fin.castAdd 8 d).val < 32 := d.isLt
    rw [augmented, doubled, dif_pos hd, dif_pos hd]
    show W k d * (-2 * r d) = _
    ring
  rw [Finset.sum_congr rfl fun d _ => h1 d, Finset.sum_neg_distrib]
  simp [augmented, doubled, Fin.natAdd, Quantizer.dist]
  ring

/-- The word `-2.0`. -/
theorem ofBits_minus_two : Ideal.ofBits .f32 0xC0000000#32 = ((-2 : ℝ) : EReal) := by
  simp [Ideal.ofBits, Ideal.ieee, -EReal.coe_mul]; norm_num

/-- The word `1024.0`. -/
theorem ofBits_words : Ideal.ofBits .f32 0x44800000#32 = ((1024 : ℝ) : EReal) := by
  simp [Ideal.ofBits, Ideal.ieee, -EReal.coe_mul]; norm_num

/-- The word of positive infinity. -/
theorem ofBits_top : Ideal.ofBits .f32 0x7F800000#32 = ⊤ := by
  simp [Ideal.ofBits, Ideal.ieee]

/-- The row of squared lengths of a block of tokens. -/
theorem norms_block (R : Fin 2048 → Token) : norms (block R) = fun j => ((sq (R (j 1)) : ℝ) : EReal) := by
  funext j
  idx_vars j
  pointwise [norms]
  show ∑ x, ((R j1 x : ℝ) : EReal) * ((R j1 x : ℝ) : EReal) = _
  simp only [← EReal.coe_mul, ← coe_sum]
  rfl

/-- The columns that are multiplied by the augmented book, for a block of tokens. -/
theorem column_block (R : Fin 2048 → Token) : column (block R) = fun j => ((doubled (R (j 1)) (j 0) : ℝ) : EReal) := by
  funext j
  idx_vars j
  pointwise [column]
  have hn : ∀ z : Fin 1, norms (block R) (ix2 z j1) = ((sq (R j1) : ℝ) : EReal) := fun z => congrFun (norms_block R) (ix2 z j1)
  simp only [hn, ofBits_minus_two]
  show _ = ((doubled (R j1) j0 : ℝ) : EReal)
  unfold doubled
  by_cases h1 : j0.val < 32
  · rw [dif_pos h1, dif_pos h1]
    exact (EReal.coe_mul _ _).symm
  rw [dif_neg h1, dif_neg h1]
  by_cases h2 : j0.val < 35
  · rw [dif_pos (by omega), if_pos h2]
    rfl
  rw [dif_neg (by omega), if_neg h2]
  by_cases h3 : j0.val < 36
  · rw [dif_pos (by omega), if_pos h3]
  · rw [dif_neg (by omega), if_neg h3]
    rfl

/-- The distances of a block of tokens. -/
theorem scores_block (R : Fin 2048 → Token) (W : Book) :
    scores (block R) (fun j => ((augmented W (j 1) (j 2) : ℝ) : EReal)) = block fun t => Quantizer.dist (R t) W := by
  funext j
  idx_vars j
  pointwise [scores]
  rw [column_block]
  show ∑ x, ((augmented W j0 x : ℝ) : EReal) * ((doubled (R j1) x : ℝ) : EReal) = _
  simp only [← EReal.coe_mul, ← coe_sum]
  rw [augmented_doubled]
  rfl

/-- A running minimum from infinity is the least entry. -/
theorem fold_min (f : Fin 1024 → ℝ) : Finset.fold min (⊤ : EReal) (fun k => ((f k : ℝ) : EReal)) Finset.univ = ((f (first f) : ℝ) : EReal) := by
  refine le_antisymm ?_ ?_
  · exact (Finset.fold_min_le _).mpr (Or.inr ⟨first f, Finset.mem_univ _, le_rfl⟩)
  · exact (Finset.le_fold_min _).mpr ⟨le_top, fun k _ => EReal.coe_le_coe_iff.mpr (first_spec f k).1⟩

/-- The least value in each column is the value at its first least position. -/
theorem least_block (D : Fin 2048 → Fin 1024 → ℝ) : least (block D) = block fun t _ => D t (first (D t)) := by
  funext j
  idx_vars j
  pointwise [least]
  rw [ofBits_top]
  exact fold_min (D j1)

/-- Row k of the column of positions holds k. -/
theorem places_apply (k : Fin 1024) (z : Fin 1) : places (F := Ideal) (ix2 k z) = ((k.val : ℝ) : EReal) := by
  pointwise [places]
  show (((BitVec.ofNat 32 k.val).toInt : ℝ) : EReal) = _
  have hk := k.isLt
  rw [BitVec.toInt_eq_toNat_of_lt (by rw [BitVec.toNat_ofNat]; omega), BitVec.toNat_ofNat, Nat.mod_eq_of_lt (by omega)]
  rfl

/-- The position of a smallest entry, and 1024 for every other entry. -/
def candidate (f : Fin 1024 → ℝ) (k : Fin 1024) : ℝ := if f k ≤ f (first f) then (k.val : ℝ) else 1024

/-- The least candidate is the first smallest position. -/
theorem first_candidate (f : Fin 1024 → ℝ) : first (candidate f) = first f := by
  have hv : candidate f (first f) = ((first f).val : ℝ) := if_pos le_rfl
  refine (eq_first fun j => ?_).symm
  rw [hv]
  unfold candidate
  have hlt : ((first f).val : ℝ) < 1024 := by exact_mod_cast (first f).isLt
  split_ifs with h
  · have hle : (first f).val ≤ j.val := not_lt.mp fun hj => absurd ((first_spec f j).2 hj) (not_lt.mpr h)
    exact ⟨by exact_mod_cast hle, fun hj => absurd hj (not_lt.mpr hle)⟩
  · exact ⟨hlt.le, fun _ => hlt⟩

/-- The candidates: the position where the value is least, 1024 elsewhere. -/
theorem candidates_block (D : Fin 2048 → Fin 1024 → ℝ) :
    candidates (cmpf .ole (block D) (least (block D))) = block fun t => candidate (D t) := by
  rw [least_block]
  funext j
  idx_vars j
  pointwise [candidates]
  rw [places_apply, ofBits_words]
  show (if ((D j1 j0 : ℝ) : EReal) ≤ ((D j1 (first (D j1)) : ℝ) : EReal) then ((j0.val : ℝ) : EReal) else ((1024 : ℝ) : EReal)) = ((candidate (D j1) j0 : ℝ) : EReal)
  unfold candidate
  simp only [EReal.coe_le_coe_iff]
  split_ifs <;> rfl

/-- A mark is the integer at its place, as a real. -/
theorem marks_apply (P : IVec S1024x2048 32) (j : S1024x2048.Idx) : marks (F := Ideal) P j = (((P j).toInt : ℝ) : EReal) := rfl

/-- The comparison for equality, entry by entry, as a 32-bit word. -/
theorem equal_apply {s : Shape} (A B : FVec Ideal s .f32) (h : 1 < 32) (j : s.Idx) :
    extui 32 (cmpf .oeq A B) h j = (Ideal.cmp .oeq (A j) (B j)).setWidth 32 := rfl

/-- Entry j of the picked array: whether its position is the least candidate of its column. -/
theorem picked_apply (S : FVec Ideal S1024x2048 .f32) (j : S1024x2048.Idx) : picked S j
    = (Ideal.cmp .oeq (broadcastTo S1024x2048 (places (F := Ideal)) broadcasts_S1024x1_S1024x2048 j) (least S j)).setWidth 32 :=
  equal_apply _ _ _ _

/-- One where a property holds, zero elsewhere. -/
def marked (p : Fin 2048 → Fin 1024 → Prop) : FVec Ideal S1024x2048 .bf16 := by
  classical exact fun j => if p (j 1) (j 0) then (1 : EReal) else (0 : EReal)

/-- The entry of token t and word k is one where p holds. -/
theorem marked_pos {p : Fin 2048 → Fin 1024 → Prop} {t : Fin 2048} {k : Fin 1024} (h : p t k) : marked p (ix2 k t) = (1 : EReal) := by
  classical exact if_pos h

/-- The entry of token t and word k is zero where p fails. -/
theorem marked_neg {p : Fin 2048 → Fin 1024 → Prop} {t : Fin 2048} {k : Fin 1024} (h : ¬p t k) : marked p (ix2 k t) = (0 : EReal) := by
  classical exact if_neg h

/-- A value equals itself. -/
theorem cmp_pos (a : EReal) : Ideal.cmp .oeq a a = 1#1 := by
  simp [Ideal.cmp]

/-- Different values do not compare as equal. -/
theorem cmp_neg {a b : EReal} (h : ¬a = b) : Ideal.cmp .oeq a b = 0#1 := by
  simp [Ideal.cmp, h]

/-- The one-hot matrix marks the position that is the least candidate of each token. -/
theorem marks_block (f : Fin 2048 → Fin 1024 → ℝ) :
    marks (picked (block f)) = marked fun j1 j0 => ((j0.val : ℝ) = f j1 (first (f j1))) := by
  funext j
  idx_vars j
  have hp : broadcastTo S1024x2048 (places (F := Ideal)) broadcasts_S1024x1_S1024x2048 (ix2 j0 j1) = ((j0.val : ℝ) : EReal) := by
    pointwise []
    exact places_apply j0 0
  have hl : least (block f) (ix2 j0 j1) = ((f j1 (first (f j1)) : ℝ) : EReal) := congrFun (least_block f) (ix2 j0 j1)
  refine (marks_apply _ _).trans ?_
  rw [picked_apply, hp, hl]
  by_cases h : (j0.val : ℝ) = f j1 (first (f j1))
  · rw [marked_pos (p := fun j1 j0 => ((j0.val : ℝ) = f j1 (first (f j1)))) h, ← h, cmp_pos]
    simp
  · rw [marked_neg (p := fun j1 j0 => ((j0.val : ℝ) = f j1 (first (f j1)))) h, cmp_neg fun e => h (EReal.coe_eq_coe_iff.mp e)]
    simp

/-- The three parts of a code book, one below the other: the code book, and zeros twice. -/
theorem parts_block (W : Book) : parts (block W) = fun j => (((if h : (j 0 : Fin 96).val < 32 then W (j 1) ⟨(j 0 : Fin 96).val, h⟩ else 0 : ℝ)) : EReal) := by
  funext j
  idx_vars j
  pointwise [parts, rest]
  show _ = (((if h : j0.val < 32 then W j1 ⟨j0.val, h⟩ else 0 : ℝ)) : EReal)
  have hb : ∀ d : Fin 32, block W (ix2 d j1) = ((W j1 d : ℝ) : EReal) := fun _ => rfl
  simp only [hb, ← EReal.coe_sub, sub_self]
  by_cases h1 : j0.val < 32
  · rw [dif_pos h1, dif_pos h1]
  · rw [dif_neg h1, dif_neg h1]
    split_ifs <;> rfl

/-- Multiplying by the marks picks the marked column. -/
theorem taken_block (V : FVec Ideal S32x1024 .f32) (κ : Fin 2048 → Fin 1024) :
    taken V (marked fun t k => k = κ t) = fun j => parts V (ix2 (j 0) (κ (j 1))) := by
  funext j
  idx_vars j
  pointwise [taken]
  refine (Finset.sum_eq_single (κ j1) (fun k _ hk => ?_) fun h => absurd (Finset.mem_univ _) h).trans ?_
  · rw [marked_neg hk, mul_zero]
  · rw [marked_pos rfl, mul_one]

/-- The look-up: each token's marked word. -/
theorem look_block (W : Book) (κ : Fin 2048 → Fin 1024) :
    look (block W) (marked fun t k => k = κ t) = block fun t => W (κ t) := by
  funext j
  idx_vars j
  pointwise [look]
  rw [taken_block, parts_block]
  have hj := j0.isLt
  show (((if h : j0.val < 32 then W (κ j1) ⟨j0.val, h⟩ else 0 : ℝ)) : EReal) + (((if h : 32 + j0.val < 32 then W (κ j1) ⟨32 + j0.val, h⟩ else 0 : ℝ)) : EReal)
    + (((if h : 64 + j0.val < 32 then W (κ j1) ⟨64 + j0.val, h⟩ else 0 : ℝ)) : EReal) = _
  rw [dif_pos hj, dif_neg (by omega), dif_neg (by omega)]
  simp only [← EReal.coe_add, add_zero]
  rfl

/-- The sum of all squares of a block. -/
theorem total_block (R : Fin 2048 → Token) : total (block R) = fun _ => ((∑ t, sq (R t) : ℝ) : EReal) := by
  funext j
  idx_vars j
  pointwise [total]
  show ∑ d, ∑ t, ((R t d : ℝ) : EReal) * ((R t d : ℝ) : EReal) = _
  simp only [← EReal.coe_mul, ← coe_sum]
  rw [Finset.sum_comm]
  rfl

/-- The one layer of a stack of one transposed book, as a block. -/
theorem book_block (C : Fin 1 → Book) : book (fun j => ((C (j 0) (j 2) (j 1) : ℝ) : EReal)) = block (C 0) := by
  funext j
  idx_vars j
  pointwise [book]
  rfl

/-- The difference of two blocks of tokens is the block of the differences. -/
theorem after_block (A B : Fin 2048 → Token) : subf (block A) (block B) = block fun t d => A t d - B t d := by
  funext j
  exact (EReal.coe_sub _ _).symm

end Cert.KernelIdeal.Stage

end
-- ==== Proof.Point.lean ====
/- One grid point of the kernel at arrays of reals: its block of sums and its contribution to the loss. -/
module

public import proofs.«01_k».proof.Proof.Block
public import Idealize.ShloMosaic.Lib.Pipeline.ValueKit.Tiles
public import proofs.«01_k».proof.Proof.Round

@[expose] public section

set_option maxRecDepth 16384

noncomputable section

namespace Cert.KernelIdeal.Stage

open Idealize.ShloMosaic Cert.KernelIdeal Cert.KernelIdeal.Gen Quantizer
open scoped BigOperators

/-- The stack of augmented code books. -/
def augStack (C : Fin 4 → Book) : FVec Ideal S4x1024x40 .bf16 := fun j => ((augmented (C (j 0)) (j 1) (j 2) : ℝ) : EReal)

/-- The stack of transposed code books. -/
def bookStack (C : Fin 4 → Book) : FVec Ideal S4x32x1024 .f32 := fun j => ((C (j 0) (j 2) (j 1) : ℝ) : EReal)

/-- One augmented code book, with a leading axis of one. -/
def augOne (W : Book) : FVec Ideal S1x1024x40 .bf16 := fun j => ((augmented W (j 1) (j 2) : ℝ) : EReal)

/-- One transposed code book, with a leading axis of one. -/
def bookOne (W : Book) : FVec Ideal S1x32x1024 .f32 := fun j => ((W (j 2) (j 1) : ℝ) : EReal)

/-- Loading layer `κ` of the stack of augmented code books gives that code book's. -/
theorem aug_layer (C : Fin 4 → Book) (κ : Fin 4) (inb) :
    View.ld (Val := Elt Ideal) (e' := .bf16) (augStack C) (Rect.unit (s := S4x1024x40) ![κ.val, 0, 0] S1x1024x40.size inb) = augOne (C κ) := by
  funext j
  idx_vars j
  exact (View.ld_unit_apply_of (Val := Elt Ideal) (e := .bf16) (augStack C) _ _ _ _ (ix3 κ j1 j2) (fun a => by
    obtain rfl : j0 = 0 := Subsingleton.elim _ _
    match a with
    | ⟨0, _⟩ => rfl
    | ⟨1, _⟩ => exact (Nat.zero_add _).symm
    | ⟨2, _⟩ => exact (Nat.zero_add _).symm)).trans rfl

/-- Loading layer `κ` of the stack of transposed code books gives that code book's. -/
theorem slab_layer (C : Fin 4 → Book) (κ : Fin 4) (inb) :
    View.ld (Val := Elt Ideal) (e' := .f32) (bookStack C) (Rect.unit (s := S4x32x1024) ![κ.val, 0, 0] S1x32x1024.size inb) = bookOne (C κ) := by
  funext j
  idx_vars j
  exact (View.ld_unit_apply_of (Val := Elt Ideal) (e := .f32) (bookStack C) _ _ _ _ (ix3 κ j1 j2) (fun a => by
    obtain rfl : j0 = 0 := Subsingleton.elim _ _
    match a with
    | ⟨0, _⟩ => rfl
    | ⟨1, _⟩ => exact (Nat.zero_add _).symm
    | ⟨2, _⟩ => exact (Nat.zero_add _).symm)).trans rfl

/-- Round 0 loads the augmented form of code book 0. -/
theorem aug0_stack (C : Fin 4 → Book) : aug0 (F := Ideal) (augStack C) = augOne (C 0) := aug_layer C 0 _

/-- Round 0 loads the transposed code book 0. -/
theorem slab0_stack (C : Fin 4 → Book) : slab0 (F := Ideal) (bookStack C) = bookOne (C 0) := slab_layer C 0 _

/-- Round 1 loads the augmented form of code book 1. -/
theorem aug1_stack (C : Fin 4 → Book) : aug1 (F := Ideal) (augStack C) = augOne (C 1) := aug_layer C 1 _

/-- Round 1 loads the transposed code book 1. -/
theorem slab1_stack (C : Fin 4 → Book) : slab1 (F := Ideal) (bookStack C) = bookOne (C 1) := slab_layer C 1 _

/-- Round 2 loads the augmented form of code book 2. -/
theorem aug2_stack (C : Fin 4 → Book) : aug2 (F := Ideal) (augStack C) = augOne (C 2) := aug_layer C 2 _

/-- Round 2 loads the transposed code book 2. -/
theorem slab2_stack (C : Fin 4 → Book) : slab2 (F := Ideal) (bookStack C) = bookOne (C 2) := slab_layer C 2 _

/-- Round 3 loads the augmented form of code book 3. -/
theorem aug3_stack (C : Fin 4 → Book) : aug3 (F := Ideal) (augStack C) = augOne (C 3) := aug_layer C 3 _

/-- Round 3 loads the transposed code book 3. -/
theorem slab3_stack (C : Fin 4 → Book) : slab3 (F := Ideal) (bookStack C) = bookOne (C 3) := slab_layer C 3 _

/-- The marks of a block of tokens are at the nearest words. -/
theorem hot_block (R : Fin 2048 → Token) (W : Book) : hot (block R) (augOne W) = marked fun t k => k = near (R t) W := by
  unfold hot ticks cands atLeast
  rw [show scores (block R) (augOne W) = block fun t => Quantizer.dist (R t) W from scores_block R W, candidates_block, marks_block]
  congr 1
  funext t k
  rw [first_candidate]
  have hc : candidate (Quantizer.dist (R t) W) (first (Quantizer.dist (R t) W)) = ((near (R t) W).val : ℝ) := if_pos le_rfl
  rw [hc]
  exact propext ⟨fun h => Fin.ext (by exact_mod_cast h), fun h => by rw [h]⟩

/-- One round's words. -/
theorem words_block (R : Fin 2048 → Token) (W : Book) : words (block R) (augOne W) (bookOne W) = block fun t => W (near (R t) W) := by
  unfold words
  rw [hot_block, show book (bookOne W) = block W from book_block fun _ => W, look_block]

/-- One round's residuals. -/
theorem after_words (R : Fin 2048 → Token) (W : Book) : after (block R) (augOne W) (bookOne W) = block fun t => next (R t) W := by
  unfold after
  rw [words_block, after_block]
  rfl

/-- The sum of two blocks of tokens is the block of the sums. -/
theorem addf_block (A B : Fin 2048 → Token) : addf (block A) (block B) = block fun t d => A t d + B t d := by
  funext j
  exact (EReal.coe_add _ _).symm

/-- The block filled with the word zero is the block of zero tokens. -/
theorem zeros_block : broadcast S32x2048 (Scalar.ofBits (F := Ideal) .f32 0x00000000#32) = block fun (_ : Fin 2048) (_ : Fin 32) => 0 := by
  funext j
  exact Ideal.ofBits_zero_f32

/-- The one-element array of a real. -/
def single (x : ℝ) : FVec Ideal S1x1 .f32 := fun _ => ((x : ℝ) : EReal)

/-- The sum of two one-entry arrays holds the sum of the entries. -/
theorem addf_single (x y : ℝ) : addf (single x) (single y) = single (x + y) := by
  funext j
  exact (EReal.coe_add _ _).symm

/-- The one-entry array filled with the word zero holds zero. -/
theorem zero_single : broadcast S1x1 (Scalar.ofBits (F := Ideal) .f32 0x00000000#32) = single 0 := by
  funext j
  exact Ideal.ofBits_zero_f32

/-- The word `1.25 / 2097152`. -/
theorem ofBits_scale : Ideal.ofBits .f32 0x35200000#32 = ((1.25 / 2097152 : ℝ) : EReal) := by
  simp [Ideal.ofBits, Ideal.ieee, -EReal.coe_mul]; norm_num

/-- A step of the loss adds the scaled contribution x to the value y that was there. -/
theorem stepLoss_single (x y : ℝ) : stepLoss (single x) (single y) = single (y + x * (1.25 / 2097152)) := by
  funext j
  show ((y : ℝ) : EReal) + ((x : ℝ) : EReal) * Ideal.ofBits .f32 0x35200000#32 = _
  rw [ofBits_scale, ← EReal.coe_mul, ← EReal.coe_add]
  rfl

/-- The block of sums of a point. -/
theorem sums_block (R : Fin 2048 → Token) (C : Fin 4 → Book) : sums (F := Ideal) (block R) (augStack C) (bookStack C) = block fun t => quantised (R t) C := by
  unfold sums blockSum
  simp only [aug0_stack, aug1_stack, aug2_stack, aug3_stack, slab0_stack, slab1_stack, slab2_stack, slab3_stack, after_words, words_block,
    zeros_block, addf_block, zero_add]
  rfl

/-- The contribution of a point to the loss. -/
theorem share_block (R : Fin 2048 → Token) (C : Fin 4 → Book) : share (F := Ideal) (block R) (augStack C) (bookStack C) = single (∑ t, excess (R t) C) := by
  unfold share blockLoss
  have ht : ∀ A : Fin 2048 → Token, total (block A) = single (∑ t, sq (A t)) := total_block
  simp only [aug0_stack, aug1_stack, aug2_stack, aug3_stack, slab0_stack, slab1_stack, slab2_stack, slab3_stack, after_words, ht, zero_single,
    addf_single, zero_add, ← Finset.sum_add_distrib]
  rfl

end Cert.KernelIdeal.Stage

end
-- ==== Proof.Prefix.lean ====
/- The kernel's three input arrays, as the host operations before its region build them from the tokens and the code books. -/
module

public import proofs.«01_k».proof.Proof.Point
public import proofs.«01_k».proof.Proof.Gen.KernelIdeal.Frame
public import Idealize.ShloMosaic.Lib.StableHlo.Run
public import Idealize.ShloMosaic.Lib.Claim

@[expose] public section

set_option maxRecDepth 16384

noncomputable section

namespace Cert.KernelIdeal.Arrays

open Idealize.ShloMosaic Idealize.ShloMosaic.TcCoe Cert.KernelIdeal Cert.KernelIdeal.Gen Cert.KernelIdeal.Stage Quantizer
open scoped BigOperators

variable {F : FTy → Type} [FloatOps F]

/-- The tokens, one to a column. -/
def columns (x : FVec F S65536x32 .f32) : FVec F S32x65536 .f32 := transpose S32x65536 [1, 0] x transposes_S65536x32_S32x65536_1_0

/-- The code books, one word to a column. -/
def flipped (cb : FVec F S4x1024x32 .f32) : FVec F S4x32x1024 .f32 := transpose S4x32x1024 [0, 2, 1] cb transposes_S4x1024x32_S4x32x1024_0_2_1

/-- The words' squared lengths. -/
def lengths (cb : FVec F S4x1024x32 .f32) : FVec F S4x1024x1 .f32 :=
  broadcastInDim S4x1024x1 ![0, 1] bcast_S4x1024_S4x1024x1_0_1
    (Host.reduceAdd (mulf cb cb) (constant S_ .f32 0x00000000#32) reducesTo_S4x1024x32_S4x1024_d2 h_S_)

/-- The leading part of a value, and what it leaves. -/
def head (v : FVec F S4x1024x1 .f32) : FVec F S4x1024x1 .bf16 := truncf .bf16 v bitsLt_bf16_f32
@[inherit_doc head]
def tail (v : FVec F S4x1024x1 .f32) : FVec F S4x1024x1 .f32 := subf v (extf .f32 (head v) bitsLt_bf16_f32)

/-- Six arrays side by side. -/
def joined (a : FVec F S4x1024x32 .bf16) (b c d e : FVec F S4x1024x1 .bf16) (f : FVec F S4x1024x4 .bf16) : FVec F S4x1024x40 .bf16 :=
  concatenate S4x1024x40 2 [⟨S4x1024x32, a⟩, ⟨S4x1024x1, b⟩, ⟨S4x1024x1, c⟩, ⟨S4x1024x1, d⟩, ⟨S4x1024x1, e⟩, ⟨S4x1024x4, f⟩]
    concatenates_S4x1024x32_S4x1024x1_S4x1024x1_S4x1024x1_S4x1024x1_S4x1024x4_S4x1024x40_d2

/-- The code books, each word with the parts of its squared length beside it, a one, and zeros. -/
def widened (cb : FVec F S4x1024x32 .f32) : FVec F S4x1024x40 .bf16 :=
  joined (truncf .bf16 cb bitsLt_bf16_f32) (head (lengths cb)) (head (tail (lengths cb))) (head (tail (tail (lengths cb))))
    (broadcastInDim S4x1024x1 ![] bcast_S_S4x1024x1 (constant S_ .bf16 0x3F80#16))
    (broadcastInDim S4x1024x4 ![] bcast_S_S4x1024x4 (constant S_ .bf16 0x0000#16))

variable (m : (ℓ : Loc nD τ sig) → Buf (Elt F) ℓ)

/-- The region's first operand is the transpose of the tokens. -/
theorem V_columns (c : Dev nD) : V m c main_v0 = columns (m ((c.tc : Thread nD τ).loc main_arg0)) := by
  show StableHlo.after (List.flatten [hostOps0]) _ _ = _
  simp only [hostOps0, List.flatten_cons, List.flatten_nil, List.append_nil]
  after_results_simp
  rfl

/-- The region's third operand is the code books with their last two axes swapped. -/
theorem V_flipped (c : Dev nD) : V m c main_v1 = flipped (m ((c.tc : Thread nD τ).loc main_arg1)) := by
  show StableHlo.after (List.flatten [hostOps0]) _ _ = _
  simp only [hostOps0, List.flatten_cons, List.flatten_nil, List.append_nil]
  after_results_simp
  rfl

/-- What the operations before the last of them leave. -/
def pieces (c : Dev nD) : Valuation τ sig (Elt F) := StableHlo.after (hostOps0.take 18) (fun b => m (c, b))

/-- The first piece to be joined: the code books themselves. -/
theorem pieces_v12 (c : Dev nD) : pieces m c (Proc.devRef .tc main_v12) = truncf .bf16 (m ((c.tc : Thread nD τ).loc main_arg1) : FVec F S4x1024x32 .f32) bitsLt_bf16_f32 := by
  unfold pieces
  simp only [hostOps0, List.take_succ_cons, List.take_zero]
  after_results_simp

/-- The second piece: the heads of the squared lengths. -/
theorem pieces_v5 (c : Dev nD) : pieces m c (Proc.devRef .tc main_v5) = head (lengths (m ((c.tc : Thread nD τ).loc main_arg1))) := by
  unfold pieces
  simp only [hostOps0, List.take_succ_cons, List.take_zero]
  after_results_simp
  rfl

/-- The third piece: the heads of what the first heads leave. -/
theorem pieces_v8 (c : Dev nD) : pieces m c (Proc.devRef .tc main_v8) = head (tail (lengths (m ((c.tc : Thread nD τ).loc main_arg1)))) := by
  unfold pieces
  simp only [hostOps0, List.take_succ_cons, List.take_zero]
  after_results_simp
  rfl

/-- The fourth piece: the heads of what the first two heads leave. -/
theorem pieces_v11 (c : Dev nD) : pieces m c (Proc.devRef .tc main_v11) = head (tail (tail (lengths (m ((c.tc : Thread nD τ).loc main_arg1))))) := by
  unfold pieces
  simp only [hostOps0, List.take_succ_cons, List.take_zero]
  after_results_simp
  rfl

/-- The fifth piece: a column of ones. -/
theorem pieces_v13 (c : Dev nD) : pieces m c (Proc.devRef .tc main_v13) = broadcastInDim S4x1024x1 ![] bcast_S_S4x1024x1 (constant S_ .bf16 0x3F80#16) := by
  unfold pieces
  simp only [hostOps0, List.take_succ_cons, List.take_zero]
  after_results_simp

/-- The sixth piece: four columns of zeros. -/
theorem pieces_v14 (c : Dev nD) : pieces m c (Proc.devRef .tc main_v14) = broadcastInDim S4x1024x4 ![] bcast_S_S4x1024x4 (constant S_ .bf16 0x0000#16) := by
  unfold pieces
  simp only [hostOps0, List.take_succ_cons, List.take_zero]
  after_results_simp

/-- The region's second operand is the widened code books. -/
theorem V_widened (c : Dev nD) : V m c main_v15 = widened (m ((c.tc : Thread nD τ).loc main_arg1)) := by
  have h : V m c main_v15 = joined (pieces m c (Proc.devRef .tc main_v12)) (pieces m c (Proc.devRef .tc main_v5)) (pieces m c (Proc.devRef .tc main_v8))
      (pieces m c (Proc.devRef .tc main_v11)) (pieces m c (Proc.devRef .tc main_v13)) (pieces m c (Proc.devRef .tc main_v14)) := by
    refine (show V m c main_v15 = StableHlo.after (hostOps0.drop 18) (pieces m c) (Proc.devRef .tc main_v15) from rfl).trans ?_
    simp only [hostOps0, List.drop_succ_cons, List.drop_zero, StableHlo.after_cons, StableHlo.after_nil]
    rw [StableHlo.nary_result]
    rfl
  rw [h, pieces_v12, pieces_v5, pieces_v8, pieces_v11, pieces_v13, pieces_v14]
  rfl

/-- The transpose of the real tokens X holds the tokens of X as columns. -/
theorem columns_lift (X : Fin 65536 → Token) : columns (lift X) = block X := by
  funext j
  idx_vars j
  pointwise [columns]
  rfl

/-- The real code books C with axes swapped are the stack of transposed books. -/
theorem flipped_lift (C : Fin 4 → Book) : flipped (lift3 C) = bookStack C := by
  funext j
  idx_vars j
  pointwise [flipped]
  rfl

/-- The squared lengths of the words of the real code books C. -/
theorem lengths_lift (C : Fin 4 → Book) : lengths (lift3 C) = fun j => ((sq (C (j 0) (j 1)) : ℝ) : EReal) := by
  funext j
  idx_vars j
  pointwise [lengths]
  show ∑ x, ((C j0 j1 x : ℝ) : EReal) * ((C j0 j1 x : ℝ) : EReal) = _
  simp only [← EReal.coe_mul, ← coe_sum]
  rfl

/-- Over the reals an array is its own head. -/
theorem head_real (f : S4x1024x1.Idx → ℝ) : head (F := Ideal) (fun j => ((f j : ℝ) : EReal)) = fun j => ((f j : ℝ) : EReal) := rfl

/-- Over the reals a head leaves zero. -/
theorem tail_real (f : S4x1024x1.Idx → ℝ) : tail (F := Ideal) (fun j => ((f j : ℝ) : EReal)) = fun _ => ((0 : ℝ) : EReal) := by
  funext j
  show ((f j : ℝ) : EReal) - ((f j : ℝ) : EReal) = _
  rw [← EReal.coe_sub, sub_self]

/-- The widened form of the real code books C is the stack of augmented books. -/
theorem widened_lift (C : Fin 4 → Book) : widened (lift3 C) = augStack C := by
  have h1 : head (lengths (lift3 C)) = fun j => ((sq (C (j 0) (j 1)) : ℝ) : EReal) := by rw [lengths_lift]; rfl
  have h2 : head (tail (lengths (lift3 C))) = fun _ => ((0 : ℝ) : EReal) := by
    rw [lengths_lift, tail_real fun j => sq (C (j 0) (j 1))]; rfl
  have h3 : head (tail (tail (lengths (lift3 C)))) = fun _ => ((0 : ℝ) : EReal) := by
    rw [lengths_lift, tail_real fun j => sq (C (j 0) (j 1)), tail_real fun _ => 0]; rfl
  unfold widened
  rw [h1, h2, h3]
  funext j
  idx_vars j
  pointwise [joined]
  show _ = ((augmented (C j0) j1 j2 : ℝ) : EReal)
  unfold augmented
  by_cases h1 : j2.val < 32
  · rw [dif_pos h1, dif_pos h1]
    rfl
  rw [dif_neg h1, dif_neg h1]
  by_cases h2 : j2.val < 33
  · rw [dif_pos (by omega), if_pos h2]
  rw [dif_neg (by omega), if_neg h2]
  by_cases h3 : j2.val < 34
  · rw [dif_pos (by omega), if_pos (by omega)]
  rw [dif_neg (by omega)]
  by_cases h4 : j2.val < 35
  · rw [dif_pos (by omega), if_pos h4]
  rw [dif_neg (by omega), if_neg h4]
  by_cases h5 : j2.val < 36
  · rw [dif_pos (by omega), if_pos h5]
    rfl
  · rw [dif_neg (by omega), if_neg h5]
    rfl

end Cert.KernelIdeal.Arrays

end
-- ==== Proof.Arrays.lean ====
/- The kernel's two result arrays after its grid, at arrays of reals: the quantised tokens, one to a column, and the loss. -/
module

public import proofs.«01_k».proof.Proof.Prefix
public import Idealize.ShloMosaic.Lib.Pipeline.Value

@[expose] public section

set_option maxRecDepth 16384

noncomputable section

namespace Cert.KernelIdeal.Arrays

open Idealize.ShloMosaic Idealize.ShloMosaic.TcCoe Cert.KernelIdeal Cert.KernelIdeal.Gen Cert.KernelIdeal.Stage Quantizer
open scoped BigOperators

/-- A point of the grid is one of thirty-two. -/
theorem point_lt (t : Fin cfg0.N) : t.val < 32 := lt_of_lt_of_eq t.isLt N_0

/-- Each window's block index at a point. -/
theorem index0 : ∀ t : Fin cfg0.N, win0_0.index t (0 : Fin 2) = 0 ∧ win0_0.index t (1 : Fin 2) = t.val := (by decide +kernel : ∀ t : Fin grid0.N, _)
@[inherit_doc index0]
theorem index1 : ∀ t : Fin cfg0.N, win0_1.index t (0 : Fin 3) = 0 ∧ win0_1.index t (1 : Fin 3) = 0 ∧ win0_1.index t (2 : Fin 3) = 0 := (by decide +kernel : ∀ t : Fin grid0.N, _)
@[inherit_doc index0]
theorem index2 : ∀ t : Fin cfg0.N, win0_2.index t (0 : Fin 3) = 0 ∧ win0_2.index t (1 : Fin 3) = 0 ∧ win0_2.index t (2 : Fin 3) = 0 := (by decide +kernel : ∀ t : Fin grid0.N, _)
@[inherit_doc index0]
theorem index3 : ∀ t : Fin cfg0.N, win0_3.index t (0 : Fin 2) = 0 ∧ win0_3.index t (1 : Fin 2) = t.val := (by decide +kernel : ∀ t : Fin grid0.N, _)
@[inherit_doc index0]
theorem index4 : ∀ t : Fin cfg0.N, win0_4.index t (0 : Fin 2) = 0 ∧ win0_4.index t (1 : Fin 2) = 0 := (by decide +kernel : ∀ t : Fin grid0.N, _)

/-- The token in column `s` of the block of point `n`. -/
def place (n : ℕ) (hn : n < 32) (s : Fin 2048) : Fin 65536 := ⟨2048 * n + s.val, by have := s.isLt; omega⟩

/-- Entry j of the block of tokens at point t is entry (j 0, place t (j 1)) of the array of tokens. -/
theorem emb0 (t : Fin cfg0.N) (j : S32x2048.Idx) : ((cfg0.win 0).blk t).view.emb j = (ix2 (j 0) (place t.val (point_lt t) (j 1)) : S32x65536.Idx) := by
  obtain ⟨e0, e1⟩ := index0 t
  funext a; apply Fin.ext
  match a with
  | ⟨0, _⟩ => show win0_0.index t (0 : Fin 2) * 32 + 1 * (j 0).val = (j 0).val; omega
  | ⟨1, _⟩ => show win0_0.index t (1 : Fin 2) * 2048 + 1 * (j 1).val = 2048 * t.val + (j 1).val; omega

/-- The block of the augmented code books is the whole array. -/
theorem emb1 (t : Fin cfg0.N) (j : S4x1024x40.Idx) : ((cfg0.win 1).blk t).view.emb j = j := by
  obtain ⟨e0, e1, e2⟩ := index1 t
  funext a; apply Fin.ext
  match a with
  | ⟨0, _⟩ => show win0_1.index t (0 : Fin 3) * 4 + 1 * (j 0).val = (j 0).val; omega
  | ⟨1, _⟩ => show win0_1.index t (1 : Fin 3) * 1024 + 1 * (j 1).val = (j 1).val; omega
  | ⟨2, _⟩ => show win0_1.index t (2 : Fin 3) * 40 + 1 * (j 2).val = (j 2).val; omega

/-- The block of the transposed code books is the whole array. -/
theorem emb2 (t : Fin cfg0.N) (j : S4x32x1024.Idx) : ((cfg0.win 2).blk t).view.emb j = j := by
  obtain ⟨e0, e1, e2⟩ := index2 t
  funext a; apply Fin.ext
  match a with
  | ⟨0, _⟩ => show win0_2.index t (0 : Fin 3) * 4 + 1 * (j 0).val = (j 0).val; omega
  | ⟨1, _⟩ => show win0_2.index t (1 : Fin 3) * 32 + 1 * (j 1).val = (j 1).val; omega
  | ⟨2, _⟩ => show win0_2.index t (2 : Fin 3) * 1024 + 1 * (j 2).val = (j 2).val; omega

/-- Entry j of the block of results at point t is entry (j 0, place t (j 1)) of the result array. -/
theorem emb3 (t : Fin cfg0.N) (j : S32x2048.Idx) : ((cfg0.win 3).blk t).view.emb j = (ix2 (j 0) (place t.val (point_lt t) (j 1)) : S32x65536.Idx) := by
  obtain ⟨e0, e1⟩ := index3 t
  funext a; apply Fin.ext
  match a with
  | ⟨0, _⟩ => show win0_3.index t (0 : Fin 2) * 32 + 1 * (j 0).val = (j 0).val; omega
  | ⟨1, _⟩ => show win0_3.index t (1 : Fin 2) * 2048 + 1 * (j 1).val = 2048 * t.val + (j 1).val; omega

/-- The block of the loss is the whole array. -/
theorem emb4 (t : Fin cfg0.N) (j : S1x1.Idx) : ((cfg0.win 4).blk t).view.emb j = j := by
  obtain ⟨e0, e1⟩ := index4 t
  funext a; apply Fin.ext
  match a with
  | ⟨0, _⟩ => show win0_4.index t (0 : Fin 2) * 1 + 1 * (j 0).val = (j 0).val; omega
  | ⟨1, _⟩ => show win0_4.index t (1 : Fin 2) * 1 + 1 * (j 1).val = (j 1).val; omega

/-- The tokens of the block of point `n`. -/
def tokens (X : Fin 65536 → Token) (n : ℕ) (hn : n < 32) (s : Fin 2048) : Token := X (place n hn s)

/-- What point `n` adds to the loss. -/
def part (X : Fin 65536 → Token) (C : Fin 4 → Book) (n : ℕ) : ℝ :=
  if hn : n < 32 then (∑ s, excess (tokens X n hn s) C) * (1.25 / 2097152) else 0

variable (m : (ℓ : Loc nD τ sig) → Buf (Elt Ideal) ℓ) (c : Dev nD) (X : Fin 65536 → Token) (C : Fin 4 → Book)

/-- The argument arrays of a device are these reals. -/
structure Holds : Prop where
  tokens : m ((c.tc : Thread nD τ).loc main_arg0) = lift X
  books : m ((c.tc : Thread nD τ).loc main_arg1) = lift3 C

variable {m c X C}

/-- The first input block of point t holds the tokens of that point, as columns. -/
theorem iblk0_eq (h : Holds m c X C) (t : Fin cfg0.N) : iblk m c 0 t = (block (tokens X t.val (point_lt t)) : FVec Ideal S32x2048 .f32) := by
  funext j
  show V m c main_v0 (((cfg0.win 0).blk t).view.emb j) = _
  rw [emb0, V_columns, h.tokens, columns_lift]
  rfl

/-- The second input block holds the four augmented code books. -/
theorem iblk1_eq (h : Holds m c X C) (t : Fin cfg0.N) : iblk m c 1 t = augStack C := by
  funext j
  show V m c main_v15 (((cfg0.win 1).blk t).view.emb j) = _
  rw [emb1, V_widened, h.books, widened_lift]

/-- The third input block holds the four transposed code books. -/
theorem iblk2_eq (h : Holds m c X C) (t : Fin cfg0.N) : iblk m c 2 t = bookStack C := by
  funext j
  show V m c main_v1 (((cfg0.win 2).blk t).view.emb j) = _
  rw [emb2, V_flipped, h.books, flipped_lift]

/-- What point n adds to the loss, for an n within the grid. -/
theorem part_eq (n : ℕ) (hn : n < 32) : part X C n = (∑ s, excess (tokens X n hn s) C) * (1.25 / 2097152) := dif_pos hn

/-- What the staging buffers of the two results hold after point `n`: the block of quantised tokens, the loss so far. -/
theorem outsAt_eq (h : Holds m c X C) : ∀ (n : ℕ) (hn : n < cfg0.N),
    outsAt0 m c n hn = ((block fun s => quantised (tokens X n (lt_of_lt_of_eq hn N_0) s) C : FVec Ideal S32x2048 .f32), single (∑ k ∈ Finset.range (n + 1), part X C k))
  | 0, hn => by
    rw [outsAt0_A m c ⟨0, hn⟩ (Nat.zero_mod _), out_A_3, out_A_4, iblk0_eq h, iblk1_eq h, iblk2_eq h, sums_block, share_block, zero_single,
      stepLoss_single, zero_add, Finset.sum_range_one]
    rfl
  | n + 1, hn => by
    have hlt : n + 1 < 32 := lt_of_lt_of_eq hn N_0
    rw [outsAt0_B m c ⟨n + 1, hn⟩ (by show ¬ (n + 1) % 32 = 0; omega), out_B_3, out_B_4, iblk0_eq h, iblk1_eq h, iblk2_eq h, sums_block, share_block]
    have ih := outsAt_eq h n (Nat.lt_of_succ_lt hn)
    show (_, stepLoss (F := Ideal) _ (outsAt0 m c n _).2) = _
    rw [ih, stepLoss_single, Finset.sum_range_succ _ (n + 1)]
    congr 3
    exact (part_eq (n + 1) hlt).symm

/-- The array of quantised tokens. -/
abbrev codes (X : Fin 65536 → Token) (C : Fin 4 → Book) : FVec Ideal S32x65536 .f32 := block fun t => quantised (X t) C

/-- What point t writes back to the first result is its block of the quantised tokens. -/
theorem flushed3_eq (h : Holds m c X C) (t : Fin cfg0.N) :
    (dats m 0 c).flushed 3 t = ((cfg0.win 3).blk t).view.read (Elt Ideal) (codes X C) := by
  show (cfg0.win 3).cut (grid0.coords t) ((dats m 0 c).after 3 t) = _
  rw [after0_3, outsAt_eq h]
  funext j
  show _ = codes X C (((cfg0.win 3).blk t).view.emb j)
  rw [emb3]
  rfl

/-- Every column is in the block of the point that it falls to. -/
theorem cover3 (i : S32x65536.Idx) : ∃ t : Fin cfg0.N, (cfg0.win 3).flush t = true ∧ i ∈ ((cfg0.win 3).blk t).view.set := by
  have h1 : (i 1).val < 65536 := (i 1).isLt
  have ht : (i 1).val / 2048 < cfg0.N := lt_of_lt_of_eq (by omega) N_0.symm
  refine ⟨⟨(i 1).val / 2048, ht⟩, flush0_3 _, ?_⟩
  have hm := ((cfg0.win 3).blk ⟨(i 1).val / 2048, ht⟩).view.emb_mem_set
    (ix2 (i 0) (⟨(i 1).val % 2048, Nat.mod_lt _ (by norm_num)⟩ : Fin 2048) : S32x2048.Idx)
  rw [emb3] at hm
  refine (congrArg (· ∈ ((cfg0.win 3).blk ⟨(i 1).val / 2048, ht⟩).view.set) (?_ : _ = i)).mp hm
  funext a; apply Fin.ext
  match a with
  | ⟨0, _⟩ => rfl
  | ⟨1, _⟩ => exact Nat.div_add_mod _ _

/-- After the whole grid the first result array holds the quantised tokens, as columns. -/
theorem final3 (h : Holds m c X C) : (dats m 0 c).arrAt 3 cfg0.N = codes X C :=
  (dats m 0 c).arrAt_eq_of_cover 3 (codes X C) (fun t _ => flushed3_eq h t) cover3

/-- A sum over `n` indices, in `a` blocks of `b`. -/
theorem sum_blocks (a b n : ℕ) (hn : a * b = n) (g : Fin n → ℝ) (p : Fin a → Fin b → Fin n) (hp : ∀ k s, (p k s).val = s.val + b * k.val) :
    ∑ k : Fin a, ∑ s : Fin b, g (p k s) = ∑ t, g t := by
  subst hn
  rw [← Fintype.sum_prod_type' fun (k : Fin a) (s : Fin b) => g (p k s)]
  refine Fintype.sum_equiv finProdFinEquiv _ g fun q => ?_
  congr 1
  apply Fin.ext
  exact hp q.1 q.2

/-- The points' parts add up to the loss. -/
theorem sum_part : ∑ k ∈ Finset.range 32, part X C k = loss X C := by
  rw [Finset.sum_range fun k => part X C k, Finset.sum_congr rfl fun (k : Fin 32) _ => part_eq k.val k.isLt, ← Finset.sum_mul]
  unfold loss
  exact congrArg (· * (1.25 / 2097152 : ℝ))
    (sum_blocks 32 2048 65536 (by norm_num) (fun t => excess (X t) C) (fun k s => place k.val k.isLt s) fun _ _ => Nat.add_comm _ _)

/-- What is written back to the second result is the loss. -/
theorem flushed4_eq (h : Holds m c X C) (t : Fin cfg0.N) (hf : (cfg0.win 4).flush t = true) :
    (dats m 0 c).flushed 4 t = ((cfg0.win 4).blk t).view.read (Elt Ideal) (single (loss X C)) := by
  have hlast : t.val + 1 = 32 := by have := (flush0_4 t).mp hf; have := point_lt t; omega
  show (cfg0.win 4).cut (grid0.coords t) ((dats m 0 c).after 4 t) = _
  rw [after0_4, outsAt_eq h, hlast, sum_part]
  rfl

/-- The one entry of the second result is written back by some point. -/
theorem cover4 (i : S1x1.Idx) : ∃ t : Fin cfg0.N, (cfg0.win 4).flush t = true ∧ i ∈ ((cfg0.win 4).blk t).view.set := by
  have ht : 31 < cfg0.N := lt_of_lt_of_eq (by norm_num) N_0.symm
  refine ⟨⟨31, ht⟩, (flush0_4 _).mpr rfl, ?_⟩
  have hm := ((cfg0.win 4).blk ⟨31, ht⟩).view.emb_mem_set i
  rwa [emb4] at hm

/-- After the whole grid the second result array holds the loss. -/
theorem final4 (h : Holds m c X C) : (dats m 0 c).arrAt 4 cfg0.N = single (loss X C) :=
  (dats m 0 c).arrAt_eq_of_cover 4 (single (loss X C)) (flushed4_eq h) cover4

end Cert.KernelIdeal.Arrays

end
-- ==== Proof.Result.lean ====
/- The kernel's run at arrays of reals: its two results are the quantised tokens and the loss, its arguments unchanged. -/
module

public import proofs.«01_k».proof.Proof.Arrays

@[expose] public section

set_option maxRecDepth 16384

noncomputable section

namespace Cert.KernelIdeal.Arrays

open Idealize.ShloMosaic Idealize.ShloMosaic.TcCoe Idealize.SL.Sem Cert.KernelIdeal Cert.KernelIdeal.Gen Cert.KernelIdeal.Stage Quantizer
open scoped BigOperators

variable {F : FTy → Type} [FloatOps F]

/-- The buffers as the region leaves them. -/
abbrev left (m : (ℓ : Loc nD τ sig) → Buf (Elt F) ℓ) (c : Dev nD) : Valuation τ sig (Elt F) :=
  Pipeline.withArrays spec0 c (V0 m c) fun w => (dats m 0 c).arrAt w cfg0.N

/-- What the region leaves in the array of window w is that array after the whole grid. -/
theorem left_arr (m : (ℓ : Loc nD τ sig) → Buf (Elt F) ℓ) (c : Dev nD) (w : Fin 5) :
    left m c (Proc.devRef .tc (Pipeline.arrRef spec0 w)) = (dats m 0 c).arrAt w cfg0.N :=
  Pipeline.withArrays_arr spec0 launch0.win.arr_inj c (V0 m c) _ w

/-- The first result is the transposed array of the fourth window, -/
theorem tail_sum (m : (ℓ : Loc nD τ sig) → Buf (Elt F) ℓ) (c : Dev nD) :
    Pipeline.afterTail₀ cfgs (dats m) 0 (V0 m) [hostOps1] c main_v17
      = transpose S65536x32 [1, 0] ((dats m 0 c).arrAt 3 cfg0.N : FVec F S32x65536 .f32) transposes_S32x65536_S65536x32_1_0 := by
  show StableHlo.after (List.flatten [hostOps1]) (left m c) (Proc.devRef .tc main_v17) = _
  simp only [hostOps1, List.flatten_cons, List.flatten_nil, List.append_nil]
  after_results_simp
  exact congrArg (fun x : FVec F S32x65536 .f32 => transpose S65536x32 [1, 0] x transposes_S32x65536_S65536x32_1_0) (left_arr m c 3)

/-- the second the one entry of the fifth's. -/
theorem tail_loss (m : (ℓ : Loc nD τ sig) → Buf (Elt F) ℓ) (c : Dev nD) :
    Pipeline.afterTail₀ cfgs (dats m) 0 (V0 m) [hostOps1] c main_v18
      = shapeCast S_ ((dats m 0 c).arrAt 4 cfg0.N : FVec F S1x1 .f32) shapeCasts_S1x1_S_ := by
  show StableHlo.after (List.flatten [hostOps1]) (left m c) (Proc.devRef .tc main_v18) = _
  simp only [hostOps1, List.flatten_cons, List.flatten_nil, List.append_nil]
  after_results_simp
  exact congrArg (fun x : FVec F S1x1 .f32 => shapeCast S_ x shapeCasts_S1x1_S_) (left_arr m c 4)

/-- The transpose of the columns of quantised tokens is the array of quantised tokens. -/
theorem transpose_codes (X : Fin 65536 → Token) (C : Fin 4 → Book) :
    transpose S65536x32 [1, 0] (codes X C) transposes_S32x65536_S65536x32_1_0 = lift fun t => quantised (X t) C := by
  funext j
  idx_vars j
  pointwise
  rfl

/-- The one-entry array reshaped to a scalar is that entry. -/
theorem cast_single (x : ℝ) : shapeCast S_ (single x) shapeCasts_S1x1_S_ = fun _ => ((x : ℝ) : EReal) := rfl

/-- The run of the kernel when every device's argument arrays are reals. -/
theorem run (m : (ℓ : Loc nD τ sig) → Buf (Elt Ideal) ℓ) (ρ : Dev nD → PrngReg) (X : Dev nD → Fin 65536 → Token) (C : Dev nD → Fin 4 → Book)
    (h : ∀ c, Holds m c (X c) (C c)) :
    θ_run defs (onTc (τ := τ) (main (F := Ideal))) ⟨m, fun _ => 0, ρ⟩ fun r => ∀ c : Dev nD,
      r.2.mem ((c.tc : Thread nD τ).loc main_v17) = (lift fun t => quantised (X c t) (C c))
      ∧ r.2.mem ((c.tc : Thread nD τ).loc main_v18) = (fun _ => ((loss (X c) (C c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ hr c =>
    ⟨((hr c).2 main_v17 (Pipeline.mem_restRefs_of main_v17 (by decide) (by decide))).trans
        ((tail_sum m c).trans ((congrArg (fun x : FVec Ideal S32x65536 .f32 => transpose S65536x32 [1, 0] x transposes_S32x65536_S65536x32_1_0)
          (final3 (h c))).trans (transpose_codes _ _))),
      ((hr c).2 main_v18 (Pipeline.mem_restRefs_of main_v18 (by decide) (by decide))).trans
        ((tail_loss m c).trans ((congrArg (fun x : FVec Ideal S1x1 .f32 => shapeCast S_ x shapeCasts_S1x1_S_) (final4 (h c))).trans (cast_single _))),
      ((hr c).2 main_arg0 (Pipeline.mem_restRefs_of main_arg0 (by decide) (by decide))).trans (W_main_arg0 m (dats m) c),
      ((hr c).2 main_arg1 (Pipeline.mem_restRefs_of main_arg1 (by decide) (by decide))).trans (W_main_arg1 m (dats m) c)⟩)
    (run_main m ρ)

end Cert.KernelIdeal.Arrays

end
-- ==== Proof.RefOps.lean ====
/- The reference's straight line of host operations, cut at the ends of its rounds and at the ends of the program's own windows.
   Each list restates operations of proof/ReferenceIdeal.lean in order, so that `main_eq` is by computation; for each list there is
   the list of buffers it writes, from which every other buffer is unchanged by it. -/
module

public import proofs.«01_k».proof.ReferenceIdeal
public import proofs.«01_k».proof.Proof.Gen.ReferenceIdeal
public import Idealize.ShloMosaic.Lib.StableHlo.Run

@[expose] public section

set_option maxRecDepth 16384

noncomputable section

namespace Cert.ReferenceIdeal.Rounds

open Idealize.ShloMosaic Idealize.ShloMosaic.StableHlo Idealize.SL.Sem Cert.ReferenceIdeal Cert.ReferenceIdeal.Facts₀ Cert.ReferenceIdeal.Facts

variable {F : FTy → Type} [FloatOps F]

/-- Round 0: the distances. -/
def dist0 : List (HloOp τ sig (Elt F)) :=
  [ unary main_arg1 main_v0 ((extractStridedSlice S1x1024x32 ![0, 0, 0] · slices_S4x1024x32_S1x1024x32_0_0_0) : (⟨S4x1024x32, .f32⟩ : BufTy).Contents (Elt F) → (⟨S1x1024x32, .f32⟩ : BufTy).Contents (Elt F)),
    reshape main_v0 main_v1 (rfl : (.f32 : EltTy) = .f32) shapeCasts_S1x1024x32_S1024x32,
    binary main_arg0 main_arg0 main_v2 (mulf : (⟨S65536x32, .f32⟩ : BufTy).Contents (Elt F) → (⟨S65536x32, .f32⟩ : BufTy).Contents (Elt F) → (⟨S65536x32, .f32⟩ : BufTy).Contents (Elt F)),
    nullary main_cst (constant S_ .f32 0x00000000#32),
    binary main_v2 main_cst main_v3 ((fun x v => Host.reduceAdd x v reducesTo_S65536x32_S65536_d1 h_S_) : (⟨S65536x32, .f32⟩ : BufTy).Contents (Elt F) → (⟨S_, .f32⟩ : BufTy).Contents (Elt F) → (⟨S65536, .f32⟩ : BufTy).Contents (Elt F)),
    unary main_v3 main_v4 (broadcastInDim S65536x1 ![0] bcast_S65536_S65536x1_0 : (⟨S65536, .f32⟩ : BufTy).Contents (Elt F) → (⟨S65536x1, .f32⟩ : BufTy).Contents (Elt F)),
    nullary main_cst_0 (constant S_ .f32 0x40000000#32),
    unary main_cst_0 main_v5 (broadcastInDim S65536x32 ![] bcast_S_S65536x32 : (⟨S_, .f32⟩ : BufTy).Contents (Elt F) → (⟨S65536x32, .f32⟩ : BufTy).Contents (Elt F)),
    binary main_v5 main_arg0 main_v6 (mulf : (⟨S65536x32, .f32⟩ : BufTy).Contents (Elt F) → (⟨S65536x32, .f32⟩ : BufTy).Contents (Elt F) → (⟨S65536x32, .f32⟩ : BufTy).Contents (Elt F)),
    unary main_v1 main_v7 ((transpose S32x1024 [1, 0] · transposes_S1024x32_S32x1024_1_0) : (⟨S1024x32, .f32⟩ : BufTy).Contents (Elt F) → (⟨S32x1024, .f32⟩ : BufTy).Contents (Elt F)),
    binary main_v6 main_v7 main_v8 ((fun l r => Host.dotGeneral dot_S65536x32_S32x1024_S65536x1024_1_0_0_1_n_n none l r) : (⟨S65536x32, .f32⟩ : BufTy).Contents (Elt F) → (⟨S32x1024, .f32⟩ : BufTy).Contents (Elt F) → (⟨S65536x1024, .f32⟩ : BufTy).Contents (Elt F)),
    unary main_v4 main_v9 (broadcastInDim S65536x1024 ![0, 1] bcast_S65536x1_S65536x1024_0_1 : (⟨S65536x1, .f32⟩ : BufTy).Contents (Elt F) → (⟨S65536x1024, .f32⟩ : BufTy).Contents (Elt F)),
    binary main_v9 main_v8 main_v10 (subf : (⟨S65536x1024, .f32⟩ : BufTy).Contents (Elt F) → (⟨S65536x1024, .f32⟩ : BufTy).Contents (Elt F) → (⟨S65536x1024, .f32⟩ : BufTy).Contents (Elt F)),
    binary main_v1 main_v1 main_v11 (mulf : (⟨S1024x32, .f32⟩ : BufTy).Contents (Elt F) → (⟨S1024x32, .f32⟩ : BufTy).Contents (Elt F) → (⟨S1024x32, .f32⟩ : BufTy).Contents (Elt F)),
    nullary main_cst_1 (constant S_ .f32 0x00000000#32),
    binary main_v11 main_cst_1 main_v12 ((fun x v => Host.reduceAdd x v reducesTo_S1024x32_S1024_d1 h_S_) : (⟨S1024x32, .f32⟩ : BufTy).Contents (Elt F) → (⟨S_, .f32⟩ : BufTy).Contents (Elt F) → (⟨S1024, .f32⟩ : BufTy).Contents (Elt F)),
    unary main_v12 main_v13 (broadcastInDim S1x1024 ![1] bcast_S1024_S1x1024_1 : (⟨S1024, .f32⟩ : BufTy).Contents (Elt F) → (⟨S1x1024, .f32⟩ : BufTy).Contents (Elt F)),
    unary main_v13 main_v14 (broadcastInDim S65536x1024 ![0, 1] bcast_S1x1024_S65536x1024_0_1 : (⟨S1x1024, .f32⟩ : BufTy).Contents (Elt F) → (⟨S65536x1024, .f32⟩ : BufTy).Contents (Elt F)),
    binary main_v10 main_v14 main_v15 (addf : (⟨S65536x1024, .f32⟩ : BufTy).Contents (Elt F) → (⟨S65536x1024, .f32⟩ : BufTy).Contents (Elt F) → (⟨S65536x1024, .f32⟩ : BufTy).Contents (Elt F)) ]

/-- The buffers that `dist0` writes. -/
def dist0W : List (Ref sig .tc) := [main_v0, main_v1, main_v2, main_cst, main_v3, main_v4, main_cst_0, main_v5, main_v6, main_v7, main_v8, main_v9, main_v10, main_v11, main_cst_1, main_v12, main_v13, main_v14, main_v15]

/-- The operations that compute distances in round 0 write only the listed buffers. -/
theorem dist0_writes : (dist0 : List (HloOp τ sig (Elt F))).Forall fun op => op.writes ⊆ (dist0W.map (Proc.devRef (τ := τ) .tc)).toFinset :=
  forall_writes_sub_of_map rfl

/-- The operations that compute distances in round 0 allocate nothing. -/
theorem dist0_fresh : (dist0 : List (HloOp τ sig (Elt F))).Forall fun op => op.fresh = ∅ :=
  forall_fresh_of_map rfl

/-- The operations that compute distances in round 0 touch only buffers of the program. -/
theorem dist0_sub : (dist0 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

/-- `dist0` leaves a buffer outside its write list as it was. -/
theorem dist0_keep (V : Valuation τ sig (Elt F)) {r : Ref sig .tc} (hr : r ∉ dist0W) : after dist0 V (Proc.devRef .tc r) = V (Proc.devRef .tc r) :=
  after_of_writes_sub dist0 V dist0_writes hr

/-- Round 0: the nearest code word. -/
def near0 : List (HloOp τ sig (Elt F)) :=
  [ TRef.nullary (TRef.of (T := ⟨S65536x1024, .i32⟩) main_call0_v0) (iotaInDim S65536x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S65536x1024, .f32⟩) main_v15) (TRef.of (T := ⟨S65536x1024, .i32⟩) main_call0_v0) (TRef.of (T := ⟨S_, .f32⟩) main_call0_cst) (TRef.of (T := ⟨S_, .i32⟩) main_call0_c) (TRef.of (T := ⟨S65536, .f32⟩) main_call0_v1_0) (fun x y u v j => (Host.argReduce reducer_argmin_f32_i32 x y u v reducesTo_S65536x1024_S65536_d1 h_S_ j).1),
    TRef.quaternary (TRef.of (T := ⟨S65536x1024, .f32⟩) main_v15) (TRef.of (T := ⟨S65536x1024, .i32⟩) main_call0_v0) (TRef.of (T := ⟨S_, .f32⟩) main_call0_cst) (TRef.of (T := ⟨S_, .i32⟩) main_call0_c) (TRef.of (T := ⟨S65536, .i32⟩) main_v16) (fun x y u v j => (Host.argReduce reducer_argmin_f32_i32 x y u v reducesTo_S65536x1024_S65536_d1 h_S_ j).2) ]

/-- The buffers that `near0` writes. -/
def near0W : List (Ref sig .tc) := [main_call0_v0, main_call0_cst, main_call0_c, main_call0_v1_0, main_v16]

/-- The operations that find the nearest words in round 0 write only the listed buffers. -/
theorem near0_writes : (near0 : List (HloOp τ sig (Elt F))).Forall fun op => op.writes ⊆ (near0W.map (Proc.devRef (τ := τ) .tc)).toFinset :=
  forall_writes_sub_of_map rfl

/-- The operations that find the nearest words in round 0 allocate nothing. -/
theorem near0_fresh : (near0 : List (HloOp τ sig (Elt F))).Forall fun op => op.fresh = ∅ :=
  forall_fresh_of_map rfl

/-- The operations that find the nearest words in round 0 touch only buffers of the program. -/
theorem near0_sub : (near0 : List (HloOp τ sig (Elt F))).Forall fun op => op.bufs ⊆ tcRefs τ sig :=
  ⟨nullary_bufs_sub .., nullary_bufs_sub .., nullary_bufs_sub .., quaternary_bufs_sub .., quaternary_bufs_sub ..⟩

/-- `near0` leaves a buffer outside its write list as it was. -/
theorem near0_keep (V : Valuation τ sig (Elt F)) {r : Ref sig .tc} (hr : r ∉ near0W) : after near0 V (Proc.devRef .tc r) = V (Proc.devRef .tc r) :=
  after_of_writes_sub near0 V near0_writes hr

/-- Round 0: the look-up. -/
def take0 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S65536, .i32⟩) main_call1_v0) (broadcastInDim S65536 ![] bcast_S_S65536),
    TRef.binary (TRef.of (T := ⟨S65536, .i32⟩) main_v16) (TRef.of (T := ⟨S65536, .i32⟩) main_call1_v0) (TRef.of (T := ⟨S65536, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S65536, .i32⟩) main_call1_v2) (broadcastInDim S65536 ![] bcast_S_S65536),
    TRef.binary (TRef.of (T := ⟨S65536, .i32⟩) main_v16) (TRef.of (T := ⟨S65536, .i32⟩) main_call1_v2) (TRef.of (T := ⟨S65536, .i32⟩) main_call1_v3) addi,
    TRef.ternary (TRef.of (T := ⟨S65536, .i1⟩) main_call1_v1) (TRef.of (T := ⟨S65536, .i32⟩) main_call1_v3) (TRef.of (T := ⟨S65536, .i32⟩) main_v16) (TRef.of (T := ⟨S65536, .i32⟩) main_call1_v4) select,
    TRef.unary (TRef.of (T := ⟨S65536, .i32⟩) main_call1_v4) (TRef.of (T := ⟨S65536x1, .i32⟩) main_call1_v5) (broadcastInDim S65536x1 ![0] bcast_S65536_S65536x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S65536x1, .i32⟩) main_call1_v6) (broadcastInDim S65536x1 ![] bcast_S_S65536x1),
    TRef.binary (TRef.of (T := ⟨S65536x1, .i32⟩) main_call1_v5) (TRef.of (T := ⟨S65536x1, .i32⟩) main_call1_v6) (TRef.of (T := ⟨S65536x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S65536x1, .i32⟩) main_call1_v9) (broadcastInDim S65536x1 ![0, 1] bcast_S1x1_S65536x1_0_1),
    TRef.binary (TRef.of (T := ⟨S65536x1, .i32⟩) main_call1_v5) (TRef.of (T := ⟨S65536x1, .i32⟩) main_call1_v9) (TRef.of (T := ⟨S65536x1, .i1⟩) main_call1_v10) (cmpi .sle),
    TRef.binary (TRef.of (T := ⟨S65536x1, .i1⟩) main_call1_v7) (TRef.of (T := ⟨S65536x1, .i1⟩) main_call1_v10) (TRef.of (T := ⟨S65536x1, .i1⟩) main_call1_v11) andi,
    TRef.nullary (TRef.of (T := ⟨S_, .i1⟩) main_call1_c_3) (constantI S_ 1 1#1),
    TRef.binary (TRef.of (T := ⟨S65536x1, .i1⟩) main_call1_v11) (TRef.of (T := ⟨S_, .i1⟩) main_call1_c_3) (TRef.of (T := ⟨S65536, .i1⟩) main_call1_v12) (fun x v => Host.reduce IntOp.andi x v reducesTo_S65536x1_S65536_d1 h_S_),
    TRef.binary (TRef.of (T := ⟨S1024x32, .f32⟩) main_v1) (TRef.of (T := ⟨S65536x1, .i32⟩) main_call1_v5) (TRef.of (T := ⟨S65536x32, .f32⟩) main_call1_v13) (fun x i => Host.gather gather_S1024x32_S65536x1_S65536x32_1_0_n_n_0_1_132 x i),
    TRef.unary (TRef.of (T := ⟨S65536, .i1⟩) main_call1_v12) (TRef.of (T := ⟨S65536x32, .i1⟩) main_call1_v14) (broadcastInDim S65536x32 ![0] bcast_S65536_S65536x32_0),
    TRef.nullary (TRef.of (T := ⟨S_, .f32⟩) main_call1_cst) (constant S_ .f32 0x7FC00000#32),
    TRef.unary (TRef.of (T := ⟨S_, .f32⟩) main_call1_cst) (TRef.of (T := ⟨S65536x32, .f32⟩) main_call1_v15) (broadcastInDim S65536x32 ![] bcast_S_S65536x32),
    TRef.ternary (TRef.of (T := ⟨S65536x32, .i1⟩) main_call1_v14) (TRef.of (T := ⟨S65536x32, .f32⟩) main_call1_v13) (TRef.of (T := ⟨S65536x32, .f32⟩) main_call1_v15) (TRef.of (T := ⟨S65536x32, .f32⟩) main_v17) select ]

/-- The buffers that `take0` writes. -/
def take0W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v17]

/-- The operations that look the words up in round 0 write only the listed buffers. -/
theorem take0_writes : (take0 : List (HloOp τ sig (Elt F))).Forall fun op => op.writes ⊆ (take0W.map (Proc.devRef (τ := τ) .tc)).toFinset :=
  forall_writes_sub_of_map rfl

/-- The operations that look the words up in round 0 allocate nothing. -/
theorem take0_fresh : (take0 : List (HloOp τ sig (Elt F))).Forall fun op => op.fresh = ∅ :=
  forall_fresh_of_map rfl

/-- The operations that look the words up in round 0 touch only buffers of the program. -/
theorem take0_sub : (take0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- `take0` leaves a buffer outside its write list as it was. -/
theorem take0_keep (V : Valuation τ sig (Elt F)) {r : Ref sig .tc} (hr : r ∉ take0W) : after take0 V (Proc.devRef .tc r) = V (Proc.devRef .tc r) :=
  after_of_writes_sub take0 V take0_writes hr

/-- Round 0: the losses, the straight-through value and the next residual. -/
def step0 : List (HloOp τ sig (Elt F)) :=
  [ binary main_arg0 main_v17 main_v18 (subf : (⟨S65536x32, .f32⟩ : BufTy).Contents (Elt F) → (⟨S65536x32, .f32⟩ : BufTy).Contents (Elt F) → (⟨S65536x32, .f32⟩ : BufTy).Contents (Elt F)),
    binary main_v18 main_v18 main_v19 (mulf : (⟨S65536x32, .f32⟩ : BufTy).Contents (Elt F) → (⟨S65536x32, .f32⟩ : BufTy).Contents (Elt F) → (⟨S65536x32, .f32⟩ : BufTy).Contents (Elt F)),
    nullary main_cst_2 (constant S_ .f32 0x00000000#32),
    binary main_v19 main_cst_2 main_v20 ((fun x v => Host.reduceAdd x v reducesTo_S65536x32_S_d0_1 h_S_) : (⟨S65536x32, .f32⟩ : BufTy).Contents (Elt F) → (⟨S_, .f32⟩ : BufTy).Contents (Elt F) → (⟨S_, .f32⟩ : BufTy).Contents (Elt F)),
    nullary main_cst_3 (constant S_ .f32 0x4A000000#32),
    binary main_v20 main_cst_3 main_v21 (Host.divf : (⟨S_, .f32⟩ : BufTy).Contents (Elt F) → (⟨S_, .f32⟩ : BufTy).Contents (Elt F) → (⟨S_, .f32⟩ : BufTy).Contents (Elt F)),
    nullary main_cst_4 (constant S_ .f32 0x00000000#32),
    binary main_cst_4 main_v21 main_v22 (addf : (⟨S_, .f32⟩ : BufTy).Contents (Elt F) → (⟨S_, .f32⟩ : BufTy).Contents (Elt F) → (⟨S_, .f32⟩ : BufTy).Contents (Elt F)),
    binary main_arg0 main_v17 main_v23 (subf : (⟨S65536x32, .f32⟩ : BufTy).Contents (Elt F) → (⟨S65536x32, .f32⟩ : BufTy).Contents (Elt F) → (⟨S65536x32, .f32⟩ : BufTy).Contents (Elt F)),
    binary main_v23 main_v23 main_v24 (mulf : (⟨S65536x32, .f32⟩ : BufTy).Contents (Elt F) → (⟨S65536x32, .f32⟩ : BufTy).Contents (Elt F) → (⟨S65536x32, .f32⟩ : BufTy).Contents (Elt F)),
    nullary main_cst_5 (constant S_ .f32 0x00000000#32),
    binary main_v24 main_cst_5 main_v25 ((fun x v => Host.reduceAdd x v reducesTo_S65536x32_S_d0_1 h_S_) : (⟨S65536x32, .f32⟩ : BufTy).Contents (Elt F) → (⟨S_, .f32⟩ : BufTy).Contents (Elt F) → (⟨S_, .f32⟩ : BufTy).Contents (Elt F)),
    nullary main_cst_6 (constant S_ .f32 0x4A000000#32),
    binary main_v25 main_cst_6 main_v26 (Host.divf : (⟨S_, .f32⟩ : BufTy).Contents (Elt F) → (⟨S_, .f32⟩ : BufTy).Contents (Elt F) → (⟨S_, .f32⟩ : BufTy).Contents (Elt F)),
    nullary main_cst_7 (constant S_ .f32 0x00000000#32),
    binary main_cst_7 main_v26 main_v27 (addf : (⟨S_, .f32⟩ : BufTy).Contents (Elt F) → (⟨S_, .f32⟩ : BufTy).Contents (Elt F) → (⟨S_, .f32⟩ : BufTy).Contents (Elt F)),
    binary main_v17 main_arg0 main_v28 (subf : (⟨S65536x32, .f32⟩ : BufTy).Contents (Elt F) → (⟨S65536x32, .f32⟩ : BufTy).Contents (Elt F) → (⟨S65536x32, .f32⟩ : BufTy).Contents (Elt F)),
    binary main_arg0 main_v28 main_v29 (addf : (⟨S65536x32, .f32⟩ : BufTy).Contents (Elt F) → (⟨S65536x32, .f32⟩ : BufTy).Contents (Elt F) → (⟨S65536x32, .f32⟩ : BufTy).Contents (Elt F)),
    binary main_arg0 main_v17 main_v30 (subf : (⟨S65536x32, .f32⟩ : BufTy).Contents (Elt F) → (⟨S65536x32, .f32⟩ : BufTy).Contents (Elt F) → (⟨S65536x32, .f32⟩ : BufTy).Contents (Elt F)) ]

/-- The buffers that `step0` writes. -/
def step0W : List (Ref sig .tc) := [main_v18, main_v19, main_cst_2, main_v20, main_cst_3, main_v21, main_cst_4, main_v22, main_v23, main_v24, main_cst_5, main_v25, main_cst_6, main_v26, main_cst_7, main_v27, main_v28, main_v29, main_v30]

/-- The operations that update the sums and the residual in round 0 write only the listed buffers. -/
theorem step0_writes : (step0 : List (HloOp τ sig (Elt F))).Forall fun op => op.writes ⊆ (step0W.map (Proc.devRef (τ := τ) .tc)).toFinset :=
  forall_writes_sub_of_map rfl

/-- The operations that update the sums and the residual in round 0 allocate nothing. -/
theorem step0_fresh : (step0 : List (HloOp τ sig (Elt F))).Forall fun op => op.fresh = ∅ :=
  forall_fresh_of_map rfl

/-- The operations that update the sums and the residual in round 0 touch only buffers of the program. -/
theorem step0_sub : (step0 : List (HloOp τ sig (Elt F))).Forall fun op => op.bufs ⊆ tcRefs τ sig :=
  ⟨binary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub ..⟩

/-- `step0` leaves a buffer outside its write list as it was. -/
theorem step0_keep (V : Valuation τ sig (Elt F)) {r : Ref sig .tc} (hr : r ∉ step0W) : after step0 V (Proc.devRef .tc r) = V (Proc.devRef .tc r) :=
  after_of_writes_sub step0 V step0_writes hr

/-- Round 1: the distances. -/
def dist1 : List (HloOp τ sig (Elt F)) :=
  [ unary main_arg1 main_v31 ((extractStridedSlice S1x1024x32 ![1, 0, 0] · slices_S4x1024x32_S1x1024x32_1_0_0) : (⟨S4x1024x32, .f32⟩ : BufTy).Contents (Elt F) → (⟨S1x1024x32, .f32⟩ : BufTy).Contents (Elt F)),
    reshape main_v31 main_v32 (rfl : (.f32 : EltTy) = .f32) shapeCasts_S1x1024x32_S1024x32,
    binary main_v30 main_v30 main_v33 (mulf : (⟨S65536x32, .f32⟩ : BufTy).Contents (Elt F) → (⟨S65536x32, .f32⟩ : BufTy).Contents (Elt F) → (⟨S65536x32, .f32⟩ : BufTy).Contents (Elt F)),
    nullary main_cst_8 (constant S_ .f32 0x00000000#32),
    binary main_v33 main_cst_8 main_v34 ((fun x v => Host.reduceAdd x v reducesTo_S65536x32_S65536_d1 h_S_) : (⟨S65536x32, .f32⟩ : BufTy).Contents (Elt F) → (⟨S_, .f32⟩ : BufTy).Contents (Elt F) → (⟨S65536, .f32⟩ : BufTy).Contents (Elt F)),
    unary main_v34 main_v35 (broadcastInDim S65536x1 ![0] bcast_S65536_S65536x1_0 : (⟨S65536, .f32⟩ : BufTy).Contents (Elt F) → (⟨S65536x1, .f32⟩ : BufTy).Contents (Elt F)),
    nullary main_cst_9 (constant S_ .f32 0x40000000#32),
    unary main_cst_9 main_v36 (broadcastInDim S65536x32 ![] bcast_S_S65536x32 : (⟨S_, .f32⟩ : BufTy).Contents (Elt F) → (⟨S65536x32, .f32⟩ : BufTy).Contents (Elt F)),
    binary main_v36 main_v30 main_v37 (mulf : (⟨S65536x32, .f32⟩ : BufTy).Contents (Elt F) → (⟨S65536x32, .f32⟩ : BufTy).Contents (Elt F) → (⟨S65536x32, .f32⟩ : BufTy).Contents (Elt F)),
    unary main_v32 main_v38 ((transpose S32x1024 [1, 0] · transposes_S1024x32_S32x1024_1_0) : (⟨S1024x32, .f32⟩ : BufTy).Contents (Elt F) → (⟨S32x1024, .f32⟩ : BufTy).Contents (Elt F)),
    binary main_v37 main_v38 main_v39 ((fun l r => Host.dotGeneral dot_S65536x32_S32x1024_S65536x1024_1_0_0_1_n_n none l r) : (⟨S65536x32, .f32⟩ : BufTy).Contents (Elt F) → (⟨S32x1024, .f32⟩ : BufTy).Contents (Elt F) → (⟨S65536x1024, .f32⟩ : BufTy).Contents (Elt F)),
    unary main_v35 main_v40 (broadcastInDim S65536x1024 ![0, 1] bcast_S65536x1_S65536x1024_0_1 : (⟨S65536x1, .f32⟩ : BufTy).Contents (Elt F) → (⟨S65536x1024, .f32⟩ : BufTy).Contents (Elt F)),
    binary main_v40 main_v39 main_v41 (subf : (⟨S65536x1024, .f32⟩ : BufTy).Contents (Elt F) → (⟨S65536x1024, .f32⟩ : BufTy).Contents (Elt F) → (⟨S65536x1024, .f32⟩ : BufTy).Contents (Elt F)),
    binary main_v32 main_v32 main_v42 (mulf : (⟨S1024x32, .f32⟩ : BufTy).Contents (Elt F) → (⟨S1024x32, .f32⟩ : BufTy).Contents (Elt F) → (⟨S1024x32, .f32⟩ : BufTy).Contents (Elt F)),
    nullary main_cst_10 (constant S_ .f32 0x00000000#32),
    binary main_v42 main_cst_10 main_v43 ((fun x v => Host.reduceAdd x v reducesTo_S1024x32_S1024_d1 h_S_) : (⟨S1024x32, .f32⟩ : BufTy).Contents (Elt F) → (⟨S_, .f32⟩ : BufTy).Contents (Elt F) → (⟨S1024, .f32⟩ : BufTy).Contents (Elt F)),
    unary main_v43 main_v44 (broadcastInDim S1x1024 ![1] bcast_S1024_S1x1024_1 : (⟨S1024, .f32⟩ : BufTy).Contents (Elt F) → (⟨S1x1024, .f32⟩ : BufTy).Contents (Elt F)),
    unary main_v44 main_v45 (broadcastInDim S65536x1024 ![0, 1] bcast_S1x1024_S65536x1024_0_1 : (⟨S1x1024, .f32⟩ : BufTy).Contents (Elt F) → (⟨S65536x1024, .f32⟩ : BufTy).Contents (Elt F)),
    binary main_v41 main_v45 main_v46 (addf : (⟨S65536x1024, .f32⟩ : BufTy).Contents (Elt F) → (⟨S65536x1024, .f32⟩ : BufTy).Contents (Elt F) → (⟨S65536x1024, .f32⟩ : BufTy).Contents (Elt F)) ]

/-- The buffers that `dist1` writes. -/
def dist1W : List (Ref sig .tc) := [main_v31, main_v32, main_v33, main_cst_8, main_v34, main_v35, main_cst_9, main_v36, main_v37, main_v38, main_v39, main_v40, main_v41, main_v42, main_cst_10, main_v43, main_v44, main_v45, main_v46]

/-- The operations that compute distances in round 1 write only the listed buffers. -/
theorem dist1_writes : (dist1 : List (HloOp τ sig (Elt F))).Forall fun op => op.writes ⊆ (dist1W.map (Proc.devRef (τ := τ) .tc)).toFinset :=
  forall_writes_sub_of_map rfl

/-- The operations that compute distances in round 1 allocate nothing. -/
theorem dist1_fresh : (dist1 : List (HloOp τ sig (Elt F))).Forall fun op => op.fresh = ∅ :=
  forall_fresh_of_map rfl

/-- The operations that compute distances in round 1 touch only buffers of the program. -/
theorem dist1_sub : (dist1 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

/-- `dist1` leaves a buffer outside its write list as it was. -/
theorem dist1_keep (V : Valuation τ sig (Elt F)) {r : Ref sig .tc} (hr : r ∉ dist1W) : after dist1 V (Proc.devRef .tc r) = V (Proc.devRef .tc r) :=
  after_of_writes_sub dist1 V dist1_writes hr

/-- Round 1: the nearest code word. -/
def near1 : List (HloOp τ sig (Elt F)) :=
  [ TRef.nullary (TRef.of (T := ⟨S65536x1024, .i32⟩) main_call2_v0) (iotaInDim S65536x1024 32 1),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S65536x1024, .f32⟩) main_v46) (TRef.of (T := ⟨S65536x1024, .i32⟩) main_call2_v0) (TRef.of (T := ⟨S_, .f32⟩) main_call2_cst) (TRef.of (T := ⟨S_, .i32⟩) main_call2_c) (TRef.of (T := ⟨S65536, .f32⟩) main_call2_v1_0) (fun x y u v j => (Host.argReduce reducer_argmin_f32_i32 x y u v reducesTo_S65536x1024_S65536_d1 h_S_ j).1),
    TRef.quaternary (TRef.of (T := ⟨S65536x1024, .f32⟩) main_v46) (TRef.of (T := ⟨S65536x1024, .i32⟩) main_call2_v0) (TRef.of (T := ⟨S_, .f32⟩) main_call2_cst) (TRef.of (T := ⟨S_, .i32⟩) main_call2_c) (TRef.of (T := ⟨S65536, .i32⟩) main_v47) (fun x y u v j => (Host.argReduce reducer_argmin_f32_i32 x y u v reducesTo_S65536x1024_S65536_d1 h_S_ j).2) ]

/-- The buffers that `near1` writes. -/
def near1W : List (Ref sig .tc) := [main_call2_v0, main_call2_cst, main_call2_c, main_call2_v1_0, main_v47]

/-- The operations that find the nearest words in round 1 write only the listed buffers. -/
theorem near1_writes : (near1 : List (HloOp τ sig (Elt F))).Forall fun op => op.writes ⊆ (near1W.map (Proc.devRef (τ := τ) .tc)).toFinset :=
  forall_writes_sub_of_map rfl

/-- The operations that find the nearest words in round 1 allocate nothing. -/
theorem near1_fresh : (near1 : List (HloOp τ sig (Elt F))).Forall fun op => op.fresh = ∅ :=
  forall_fresh_of_map rfl

/-- The operations that find the nearest words in round 1 touch only buffers of the program. -/
theorem near1_sub : (near1 : List (HloOp τ sig (Elt F))).Forall fun op => op.bufs ⊆ tcRefs τ sig :=
  ⟨nullary_bufs_sub .., nullary_bufs_sub .., nullary_bufs_sub .., quaternary_bufs_sub .., quaternary_bufs_sub ..⟩

/-- `near1` leaves a buffer outside its write list as it was. -/
theorem near1_keep (V : Valuation τ sig (Elt F)) {r : Ref sig .tc} (hr : r ∉ near1W) : after near1 V (Proc.devRef .tc r) = V (Proc.devRef .tc r) :=
  after_of_writes_sub near1 V near1_writes hr

/-- Round 1: the look-up. -/
def take1 : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S65536, .i32⟩) main_call3_v0) (broadcastInDim S65536 ![] bcast_S_S65536),
    TRef.binary (TRef.of (T := ⟨S65536, .i32⟩) main_v47) (TRef.of (T := ⟨S65536, .i32⟩) main_call3_v0) (TRef.of (T := ⟨S65536, .i1⟩) main_call3_v1) (cmpi .slt),
    TRef.nullary (TRef.of (T := ⟨S_, .i32⟩) main_call3_c_0) (constantI S_ 32 1024#32),
    TRef.unary (TRef.of (T := ⟨S_, .i32⟩) main_call3_c_0) (TRef.of (T := ⟨S65536, .i32⟩) main_call3_v2) (broadcastInDim S65536 ![] bcast_S_S65536),
    TRef.binary (TRef.of (T := ⟨S65536, .i32⟩) main_v47) (TRef.of (T := ⟨S65536, .i32⟩) main_call3_v2) (TRef.of (T := ⟨S65536, .i32⟩) main_call3_v3) addi,
    TRef.ternary (TRef.of (T := ⟨S65536, .i1⟩) main_call3_v1) (TRef.of (T := ⟨S65536, .i32⟩) main_call3_v3) (TRef.of (T := ⟨S65536, .i32⟩) main_v47) (TRef.of (T := ⟨S65536, .i32⟩) main_call3_v4) select,
    TRef.unary (TRef.of (T := ⟨S65536, .i32⟩) main_call3_v4) (TRef.of (T := ⟨S65536x1, .i32⟩) main_call3_v5) (broadcastInDim S65536x1 ![0] bcast_S65536_S65536x1_0),
    TRef.nullary (TRef.of (T := ⟨S1, .i32⟩) main_call3_c_1) (constantI S1 32 1023#32),
    TRef.nullary (TRef.of (T := ⟨S_, .i32⟩) main_call3_c_2) (constantI S_ 32 0#32),
    TRef.unary (TRef.of (T := ⟨S_, .i32⟩) main_call3_c_2) (TRef.of (T := ⟨S65536x1, .i32⟩) main_call3_v6) (broadcastInDim S65536x1 ![] bcast_S_S65536x1),
    TRef.binary (TRef.of (T := ⟨S65536x1, .i32⟩) main_call3_v5) (TRef.of (T := ⟨S65536x1, .i32⟩) main_call3_v6) (TRef.of (T := ⟨S65536x1, .i1⟩) main_call3_v7) (cmpi .sge),
    TRef.unary (TRef.of (T := ⟨S1, .i32⟩) main_call3_c_1) (TRef.of (T := ⟨S1x1, .i32⟩) main_call3_v8) (broadcastInDim S1x1 ![1] bcast_S1_S1x1_1),
    TRef.unary (TRef.of (T := ⟨S1x1, .i32⟩) main_call3_v8) (TRef.of (T := ⟨S65536x1, .i32⟩) main_call3_v9) (broadcastInDim S65536x1 ![0, 1] bcast_S1x1_S65536x1_0_1),
    TRef.binary (TRef.of (T := ⟨S65536x1, .i32⟩) main_call3_v5) (TRef.of (T := ⟨S65536x1, .i32⟩) main_call3_v9) (TRef.of (T := ⟨S65536x1, .i1⟩) main_call3_v10) (cmpi .sle),
    TRef.binary (TRef.of (T := ⟨S65536x1, .i1⟩) main_call3_v7) (TRef.of (T := ⟨S65536x1, .i1⟩) main_call3_v10) (TRef.of (T := ⟨S65536x1, .i1⟩) main_call3_v11) andi,
    TRef.nullary (TRef.of (T := ⟨S_, .i1⟩) main_call3_c_3) (constantI S_ 1 1#1),
    TRef.binary (TRef.of (T := ⟨S65536x1, .i1⟩) main_call3_v11) (TRef.of (T := ⟨S_, .i1⟩) main_call3_c_3) (TRef.of (T := ⟨S65536, .i1⟩) main_call3_v12) (fun x v => Host.reduce IntOp.andi x v reducesTo_S65536x1_S65536_d1 h_S_),
    TRef.binary (TRef.of (T := ⟨S1024x32, .f32⟩) main_v32) (TRef.of (T := ⟨S65536x1, .i32⟩) main_call3_v5) (TRef.of (T := ⟨S65536x32, .f32⟩) main_call3_v13) (fun x i => Host.gather gather_S1024x32_S65536x1_S65536x32_1_0_n_n_0_1_132 x i),
    TRef.unary (TRef.of (T := ⟨S65536, .i1⟩) main_call3_v12) (TRef.of (T := ⟨S65536x32, .i1⟩) main_call3_v14) (broadcastInDim S65536x32 ![0] bcast_S65536_S65536x32_0),
    TRef.nullary (TRef.of (T := ⟨S_, .f32⟩) main_call3_cst) (constant S_ .f32 0x7FC00000#32),
    TRef.unary (TRef.of (T := ⟨S_, .f32⟩) main_call3_cst) (TRef.of (T := ⟨S65536x32, .f32⟩) main_call3_v15) (broadcastInDim S65536x32 ![] bcast_S_S65536x32),
    TRef.ternary (TRef.of (T := ⟨S65536x32, .i1⟩) main_call3_v14) (TRef.of (T := ⟨S65536x32, .f32⟩) main_call3_v13) (TRef.of (T := ⟨S65536x32, .f32⟩) main_call3_v15) (TRef.of (T := ⟨S65536x32, .f32⟩) main_v48) select ]

/-- The buffers that `take1` writes. -/
def take1W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v48]

/-- The operations that look the words up in round 1 write only the listed buffers. -/
theorem take1_writes : (take1 : List (HloOp τ sig (Elt F))).Forall fun op => op.writes ⊆ (take1W.map (Proc.devRef (τ := τ) .tc)).toFinset :=
  forall_writes_sub_of_map rfl

/-- The operations that look the words up in round 1 allocate nothing. -/
theorem take1_fresh : (take1 : List (HloOp τ sig (Elt F))).Forall fun op => op.fresh = ∅ :=
  forall_fresh_of_map rfl

/-- The operations that look the words up in round 1 touch only buffers of the program. -/
theorem take1_sub : (take1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- `take1` leaves a buffer outside its write list as it was. -/
theorem take1_keep (V : Valuation τ sig (Elt F)) {r : Ref sig .tc} (hr : r ∉ take1W) : after take1 V (Proc.devRef .tc r) = V (Proc.devRef .tc r) :=
  after_of_writes_sub take1 V take1_writes hr

/-- Round 1: the losses, the straight-through value and the next residual. -/
def step1 : List (HloOp τ sig (Elt F)) :=
  [ binary main_v30 main_v48 main_v49 (subf : (⟨S65536x32, .f32⟩ : BufTy).Contents (Elt F) → (⟨S65536x32, .f32⟩ : BufTy).Contents (Elt F) → (⟨S65536x32, .f32⟩ : BufTy).Contents (Elt F)),
    binary main_v49 main_v49 main_v50 (mulf : (⟨S65536x32, .f32⟩ : BufTy).Contents (Elt F) → (⟨S65536x32, .f32⟩ : BufTy).Contents (Elt F) → (⟨S65536x32, .f32⟩ : BufTy).Contents (Elt F)),
    nullary main_cst_11 (constant S_ .f32 0x00000000#32),
    binary main_v50 main_cst_11 main_v51 ((fun x v => Host.reduceAdd x v reducesTo_S65536x32_S_d0_1 h_S_) : (⟨S65536x32, .f32⟩ : BufTy).Contents (Elt F) → (⟨S_, .f32⟩ : BufTy).Contents (Elt F) → (⟨S_, .f32⟩ : BufTy).Contents (Elt F)),
    nullary main_cst_12 (constant S_ .f32 0x4A000000#32),
    binary main_v51 main_cst_12 main_v52 (Host.divf : (⟨S_, .f32⟩ : BufTy).Contents (Elt F) → (⟨S_, .f32⟩ : BufTy).Contents (Elt F) → (⟨S_, .f32⟩ : BufTy).Contents (Elt F)),
    binary main_v22 main_v52 main_v53 (addf : (⟨S_, .f32⟩ : BufTy).Contents (Elt F) → (⟨S_, .f32⟩ : BufTy).Contents (Elt F) → (⟨S_, .f32⟩ : BufTy).Contents (Elt F)),
    binary main_v30 main_v48 main_v54 (subf : (⟨S65536x32, .f32⟩ : BufTy).Contents (Elt F) → (⟨S65536x32, .f32⟩ : BufTy).Contents (Elt F) → (⟨S65536x32, .f32⟩ : BufTy).Contents (Elt F)),
    binary main_v54 main_v54 main_v55 (mulf : (⟨S65536x32, .f32⟩ : BufTy).Contents (Elt F) → (⟨S65536x32, .f32⟩ : BufTy).Contents (Elt F) → (⟨S65536x32, .f32⟩ : BufTy).Contents (Elt F)),
    nullary main_cst_13 (constant S_ .f32 0x00000000#32),
    binary main_v55 main_cst_13 main_v56 ((fun x v => Host.reduceAdd x v reducesTo_S65536x32_S_d0_1 h_S_) : (⟨S65536x32, .f32⟩ : BufTy).Contents (Elt F) → (⟨S_, .f32⟩ : BufTy).Contents (Elt F) → (⟨S_, .f32⟩ : BufTy).Contents (Elt F)),
    nullary main_cst_14 (constant S_ .f32 0x4A000000#32),
    binary main_v56 main_cst_14 main_v57 (Host.divf : (⟨S_, .f32⟩ : BufTy).Contents (Elt F) → (⟨S_, .f32⟩ : BufTy).Contents (Elt F) → (⟨S_, .f32⟩ : BufTy).Contents (Elt F)),
    binary main_v27 main_v57 main_v58 (addf : (⟨S_, .f32⟩ : BufTy).Contents (Elt F) → (⟨S_, .f32⟩ : BufTy).Contents (Elt F) → (⟨S_, .f32⟩ : BufTy).Contents (Elt F)),
    binary main_v48 main_v30 main_v59 (subf : (⟨S65536x32, .f32⟩ : BufTy).Contents (Elt F) → (⟨S65536x32, .f32⟩ : BufTy).Contents (Elt F) → (⟨S65536x32, .f32⟩ : BufTy).Contents (Elt F)),
    binary main_v30 main_v59 main_v60 (addf : (⟨S65536x32, .f32⟩ : BufTy).Contents (Elt F) → (⟨S65536x32, .f32⟩ : BufTy).Contents (Elt F) → (⟨S65536x32, .f32⟩ : BufTy).Contents (Elt F)),
    binary main_v30 main_v48 main_v61 (subf : (⟨S65536x32, .f32⟩ : BufTy).Contents (Elt F) → (⟨S65536x32, .f32⟩ : BufTy).Contents (Elt F) → (⟨S65536x32, .f32⟩ : BufTy).Contents (Elt F)) ]

/-- The buffers that `step1` writes. -/
def step1W : List (Ref sig .tc) := [main_v49, main_v50, main_cst_11, main_v51, main_cst_12, main_v52, main_v53, main_v54, main_v55, main_cst_13, main_v56, main_cst_14, main_v57, main_v58, main_v59, main_v60, main_v61]

/-- The operations that update the sums and the residual in round 1 write only the listed buffers. -/
theorem step1_writes : (step1 : List (HloOp τ sig (Elt F))).Forall fun op => op.writes ⊆ (step1W.map (Proc.devRef (τ := τ) .tc)).toFinset :=
  forall_writes_sub_of_map rfl

/-- The operations that update the sums and the residual in round 1 allocate nothing. -/
theorem step1_fresh : (step1 : List (HloOp τ sig (Elt F))).Forall fun op => op.fresh = ∅ :=
  forall_fresh_of_map rfl

/-- The operations that update the sums and the residual in round 1 touch only buffers of the program. -/
theorem step1_sub : (step1 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., binary_bufs_sub .., binary_bufs_sub .., binary_bufs_sub .., binary_bufs_sub .., binary_bufs_sub ..⟩

/-- `step1` leaves a buffer outside its write list as it was. -/
theorem step1_keep (V : Valuation τ sig (Elt F)) {r : Ref sig .tc} (hr : r ∉ step1W) : after step1 V (Proc.devRef .tc r) = V (Proc.devRef .tc r) :=
  after_of_writes_sub step1 V step1_writes hr

/-- Round 2: the distances. -/
def dist2 : List (HloOp τ sig (Elt F)) :=
  [ unary main_arg1 main_v62 ((extractStridedSlice S1x1024x32 ![2, 0, 0] · slices_S4x1024x32_S1x1024x32_2_0_0) : (⟨S4x1024x32, .f32⟩ : BufTy).Contents (Elt F) → (⟨S1x1024x32, .f32⟩ : BufTy).Contents (Elt F)),
    reshape main_v62 main_v63 (rfl : (.f32 : EltTy) = .f32) shapeCasts_S1x1024x32_S1024x32,
    binary main_v61 main_v61 main_v64 (mulf : (⟨S65536x32, .f32⟩ : BufTy).Contents (Elt F) → (⟨S65536x32, .f32⟩ : BufTy).Contents (Elt F) → (⟨S65536x32, .f32⟩ : BufTy).Contents (Elt F)),
    nullary main_cst_15 (constant S_ .f32 0x00000000#32),
    binary main_v64 main_cst_15 main_v65 ((fun x v => Host.reduceAdd x v reducesTo_S65536x32_S65536_d1 h_S_) : (⟨S65536x32, .f32⟩ : BufTy).Contents (Elt F) → (⟨S_, .f32⟩ : BufTy).Contents (Elt F) → (⟨S65536, .f32⟩ : BufTy).Contents (Elt F)),
    unary main_v65 main_v66 (broadcastInDim S65536x1 ![0] bcast_S65536_S65536x1_0 : (⟨S65536, .f32⟩ : BufTy).Contents (Elt F) → (⟨S65536x1, .f32⟩ : BufTy).Contents (Elt F)),
    nullary main_cst_16 (constant S_ .f32 0x40000000#32),
    unary main_cst_16 main_v67 (broadcastInDim S65536x32 ![] bcast_S_S65536x32 : (⟨S_, .f32⟩ : BufTy).Contents (Elt F) → (⟨S65536x32, .f32⟩ : BufTy).Contents (Elt F)),
    binary main_v67 main_v61 main_v68 (mulf : (⟨S65536x32, .f32⟩ : BufTy).Contents (Elt F) → (⟨S65536x32, .f32⟩ : BufTy).Contents (Elt F) → (⟨S65536x32, .f32⟩ : BufTy).Contents (Elt F)),
    unary main_v63 main_v69 ((transpose S32x1024 [1, 0] · transposes_S1024x32_S32x1024_1_0) : (⟨S1024x32, .f32⟩ : BufTy).Contents (Elt F) → (⟨S32x1024, .f32⟩ : BufTy).Contents (Elt F)),
    binary main_v68 main_v69 main_v70 ((fun l r => Host.dotGeneral dot_S65536x32_S32x1024_S65536x1024_1_0_0_1_n_n none l r) : (⟨S65536x32, .f32⟩ : BufTy).Contents (Elt F) → (⟨S32x1024, .f32⟩ : BufTy).Contents (Elt F) → (⟨S65536x1024, .f32⟩ : BufTy).Contents (Elt F)),
    unary main_v66 main_v71 (broadcastInDim S65536x1024 ![0, 1] bcast_S65536x1_S65536x1024_0_1 : (⟨S65536x1, .f32⟩ : BufTy).Contents (Elt F) → (⟨S65536x1024, .f32⟩ : BufTy).Contents (Elt F)),
    binary main_v71 main_v70 main_v72 (subf : (⟨S65536x1024, .f32⟩ : BufTy).Contents (Elt F) → (⟨S65536x1024, .f32⟩ : BufTy).Contents (Elt F) → (⟨S65536x1024, .f32⟩ : BufTy).Contents (Elt F)),
    binary main_v63 main_v63 main_v73 (mulf : (⟨S1024x32, .f32⟩ : BufTy).Contents (Elt F) → (⟨S1024x32, .f32⟩ : BufTy).Contents (Elt F) → (⟨S1024x32, .f32⟩ : BufTy).Contents (Elt F)),
    nullary main_cst_17 (constant S_ .f32 0x00000000#32),
    binary main_v73 main_cst_17 main_v74 ((fun x v => Host.reduceAdd x v reducesTo_S1024x32_S1024_d1 h_S_) : (⟨S1024x32, .f32⟩ : BufTy).Contents (Elt F) → (⟨S_, .f32⟩ : BufTy).Contents (Elt F) → (⟨S1024, .f32⟩ : BufTy).Contents (Elt F)),
    unary main_v74 main_v75 (broadcastInDim S1x1024 ![1] bcast_S1024_S1x1024_1 : (⟨S1024, .f32⟩ : BufTy).Contents (Elt F) → (⟨S1x1024, .f32⟩ : BufTy).Contents (Elt F)),
    unary main_v75 main_v76 (broadcastInDim S65536x1024 ![0, 1] bcast_S1x1024_S65536x1024_0_1 : (⟨S1x1024, .f32⟩ : BufTy).Contents (Elt F) → (⟨S65536x1024, .f32⟩ : BufTy).Contents (Elt F)),
    binary main_v72 main_v76 main_v77 (addf : (⟨S65536x1024, .f32⟩ : BufTy).Contents (Elt F) → (⟨S65536x1024, .f32⟩ : BufTy).Contents (Elt F) → (⟨S65536x1024, .f32⟩ : BufTy).Contents (Elt F)) ]

/-- The buffers that `dist2` writes. -/
def dist2W : List (Ref sig .tc) := [main_v62, main_v63, main_v64, main_cst_15, main_v65, main_v66, main_cst_16, main_v67, main_v68, main_v69, main_v70, main_v71, main_v72, main_v73, main_cst_17, main_v74, main_v75, main_v76, main_v77]

/-- The operations that compute distances in round 2 write only the listed buffers. -/
theorem dist2_writes : (dist2 : List (HloOp τ sig (Elt F))).Forall fun op => op.writes ⊆ (dist2W.map (Proc.devRef (τ := τ) .tc)).toFinset :=
  forall_writes_sub_of_map rfl

/-- The operations that compute distances in round 2 allocate nothing. -/
theorem dist2_fresh : (dist2 : List (HloOp τ sig (Elt F))).Forall fun op => op.fresh = ∅ :=
  forall_fresh_of_map rfl

/-- The operations that compute distances in round 2 touch only buffers of the program. -/
theorem dist2_sub : (dist2 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

/-- `dist2` leaves a buffer outside its write list as it was. -/
theorem dist2_keep (V : Valuation τ sig (Elt F)) {r : Ref sig .tc} (hr : r ∉ dist2W) : after dist2 V (Proc.devRef .tc r) = V (Proc.devRef .tc r) :=
  after_of_writes_sub dist2 V dist2_writes hr

/-- Round 2: the nearest code word. -/
def near2 : List (HloOp τ sig (Elt F)) :=
  [ TRef.nullary (TRef.of (T := ⟨S65536x1024, .i32⟩) main_call4_v0) (iotaInDim S65536x1024 32 1),
    TRef.nullary (TRef.of (T := ⟨S_, .f32⟩) main_call4_cst) (constant S_ .f32 0x7F800000#32),
    TRef.nullary (TRef.of (T := ⟨S_, .i32⟩) main_call4_c) (constantI S_ 32 0#32),
    TRef.quaternary (TRef.of (T := ⟨S65536x1024, .f32⟩) main_v77) (TRef.of (T := ⟨S65536x1024, .i32⟩) main_call4_v0) (TRef.of (T := ⟨S_, .f32⟩) main_call4_cst) (TRef.of (T := ⟨S_, .i32⟩) main_call4_c) (TRef.of (T := ⟨S65536, .f32⟩) main_call4_v1_0) (fun x y u v j => (Host.argReduce reducer_argmin_f32_i32 x y u v reducesTo_S65536x1024_S65536_d1 h_S_ j).1),
    TRef.quaternary (TRef.of (T := ⟨S65536x1024, .f32⟩) main_v77) (TRef.of (T := ⟨S65536x1024, .i32⟩) main_call4_v0) (TRef.of (T := ⟨S_, .f32⟩) main_call4_cst) (TRef.of (T := ⟨S_, .i32⟩) main_call4_c) (TRef.of (T := ⟨S65536, .i32⟩) main_v78) (fun x y u v j => (Host.argReduce reducer_argmin_f32_i32 x y u v reducesTo_S65536x1024_S65536_d1 h_S_ j).2) ]

/-- The buffers that `near2` writes. -/
def near2W : List (Ref sig .tc) := [main_call4_v0, main_call4_cst, main_call4_c, main_call4_v1_0, main_v78]

/-- The operations that find the nearest words in round 2 write only the listed buffers. -/
theorem near2_writes : (near2 : List (HloOp τ sig (Elt F))).Forall fun op => op.writes ⊆ (near2W.map (Proc.devRef (τ := τ) .tc)).toFinset :=
  forall_writes_sub_of_map rfl

/-- The operations that find the nearest words in round 2 allocate nothing. -/
theorem near2_fresh : (near2 : List (HloOp τ sig (Elt F))).Forall fun op => op.fresh = ∅ :=
  forall_fresh_of_map rfl

/-- The operations that find the nearest words in round 2 touch only buffers of the program. -/
theorem near2_sub : (near2 : List (HloOp τ sig (Elt F))).Forall fun op => op.bufs ⊆ tcRefs τ sig :=
  ⟨nullary_bufs_sub .., nullary_bufs_sub .., nullary_bufs_sub .., quaternary_bufs_sub .., quaternary_bufs_sub ..⟩

/-- `near2` leaves a buffer outside its write list as it was. -/
theorem near2_keep (V : Valuation τ sig (Elt F)) {r : Ref sig .tc} (hr : r ∉ near2W) : after near2 V (Proc.devRef .tc r) = V (Proc.devRef .tc r) :=
  after_of_writes_sub near2 V near2_writes hr

/-- Round 2: the look-up. -/
def take2 : List (HloOp τ sig (Elt F)) :=
  [ TRef.nullary (TRef.of (T := ⟨S_, .i32⟩) main_call5_c) (constantI S_ 32 0#32),
    TRef.unary (TRef.of (T := ⟨S_, .i32⟩) main_call5_c) (TRef.of (T := ⟨S65536, .i32⟩) main_call5_v0) (broadcastInDim S65536 ![] bcast_S_S65536),
    TRef.binary (TRef.of (T := ⟨S65536, .i32⟩) main_v78) (TRef.of (T := ⟨S65536, .i32⟩) main_call5_v0) (TRef.of (T := ⟨S65536, .i1⟩) main_call5_v1) (cmpi .slt),
    TRef.nullary (TRef.of (T := ⟨S_, .i32⟩) main_call5_c_0) (constantI S_ 32 1024#32),
    TRef.unary (TRef.of (T := ⟨S_, .i32⟩) main_call5_c_0) (TRef.of (T := ⟨S65536, .i32⟩) main_call5_v2) (broadcastInDim S65536 ![] bcast_S_S65536),
    TRef.binary (TRef.of (T := ⟨S65536, .i32⟩) main_v78) (TRef.of (T := ⟨S65536, .i32⟩) main_call5_v2) (TRef.of (T := ⟨S65536, .i32⟩) main_call5_v3) addi,
    TRef.ternary (TRef.of (T := ⟨S65536, .i1⟩) main_call5_v1) (TRef.of (T := ⟨S65536, .i32⟩) main_call5_v3) (TRef.of (T := ⟨S65536, .i32⟩) main_v78) (TRef.of (T := ⟨S65536, .i32⟩) main_call5_v4) select,
    TRef.unary (TRef.of (T := ⟨S65536, .i32⟩) main_call5_v4) (TRef.of (T := ⟨S65536x1, .i32⟩) main_call5_v5) (broadcastInDim S65536x1 ![0] bcast_S65536_S65536x1_0),
    TRef.nullary (TRef.of (T := ⟨S1, .i32⟩) main_call5_c_1) (constantI S1 32 1023#32),
    TRef.nullary (TRef.of (T := ⟨S_, .i32⟩) main_call5_c_2) (constantI S_ 32 0#32),
    TRef.unary (TRef.of (T := ⟨S_, .i32⟩) main_call5_c_2) (TRef.of (T := ⟨S65536x1, .i32⟩) main_call5_v6) (broadcastInDim S65536x1 ![] bcast_S_S65536x1),
    TRef.binary (TRef.of (T := ⟨S65536x1, .i32⟩) main_call5_v5) (TRef.of (T := ⟨S65536x1, .i32⟩) main_call5_v6) (TRef.of (T := ⟨S65536x1, .i1⟩) main_call5_v7) (cmpi .sge),
    TRef.unary (TRef.of (T := ⟨S1, .i32⟩) main_call5_c_1) (TRef.of (T := ⟨S1x1, .i32⟩) main_call5_v8) (broadcastInDim S1x1 ![1] bcast_S1_S1x1_1),
    TRef.unary (TRef.of (T := ⟨S1x1, .i32⟩) main_call5_v8) (TRef.of (T := ⟨S65536x1, .i32⟩) main_call5_v9) (broadcastInDim S65536x1 ![0, 1] bcast_S1x1_S65536x1_0_1),
    TRef.binary (TRef.of (T := ⟨S65536x1, .i32⟩) main_call5_v5) (TRef.of (T := ⟨S65536x1, .i32⟩) main_call5_v9) (TRef.of (T := ⟨S65536x1, .i1⟩) main_call5_v10) (cmpi .sle),
    TRef.binary (TRef.of (T := ⟨S65536x1, .i1⟩) main_call5_v7) (TRef.of (T := ⟨S65536x1, .i1⟩) main_call5_v10) (TRef.of (T := ⟨S65536x1, .i1⟩) main_call5_v11) andi,
    TRef.nullary (TRef.of (T := ⟨S_, .i1⟩) main_call5_c_3) (constantI S_ 1 1#1),
    TRef.binary (TRef.of (T := ⟨S65536x1, .i1⟩) main_call5_v11) (TRef.of (T := ⟨S_, .i1⟩) main_call5_c_3) (TRef.of (T := ⟨S65536, .i1⟩) main_call5_v12) (fun x v => Host.reduce IntOp.andi x v reducesTo_S65536x1_S65536_d1 h_S_),
    TRef.binary (TRef.of (T := ⟨S1024x32, .f32⟩) main_v63) (TRef.of (T := ⟨S65536x1, .i32⟩) main_call5_v5) (TRef.of (T := ⟨S65536x32, .f32⟩) main_call5_v13) (fun x i => Host.gather gather_S1024x32_S65536x1_S65536x32_1_0_n_n_0_1_132 x i),
    TRef.unary (TRef.of (T := ⟨S65536, .i1⟩) main_call5_v12) (TRef.of (T := ⟨S65536x32, .i1⟩) main_call5_v14) (broadcastInDim S65536x32 ![0] bcast_S65536_S65536x32_0),
    TRef.nullary (TRef.of (T := ⟨S_, .f32⟩) main_call5_cst) (constant S_ .f32 0x7FC00000#32),
    TRef.unary (TRef.of (T := ⟨S_, .f32⟩) main_call5_cst) (TRef.of (T := ⟨S65536x32, .f32⟩) main_call5_v15) (broadcastInDim S65536x32 ![] bcast_S_S65536x32),
    TRef.ternary (TRef.of (T := ⟨S65536x32, .i1⟩) main_call5_v14) (TRef.of (T := ⟨S65536x32, .f32⟩) main_call5_v13) (TRef.of (T := ⟨S65536x32, .f32⟩) main_call5_v15) (TRef.of (T := ⟨S65536x32, .f32⟩) main_v79) select ]

/-- The buffers that `take2` writes. -/
def take2W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v79]

/-- The operations that look the words up in round 2 write only the listed buffers. -/
theorem take2_writes : (take2 : List (HloOp τ sig (Elt F))).Forall fun op => op.writes ⊆ (take2W.map (Proc.devRef (τ := τ) .tc)).toFinset :=
  forall_writes_sub_of_map rfl

/-- The operations that look the words up in round 2 allocate nothing. -/
theorem take2_fresh : (take2 : List (HloOp τ sig (Elt F))).Forall fun op => op.fresh = ∅ :=
  forall_fresh_of_map rfl

/-- The operations that look the words up in round 2 touch only buffers of the program. -/
theorem take2_sub : (take2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- `take2` leaves a buffer outside its write list as it was. -/
theorem take2_keep (V : Valuation τ sig (Elt F)) {r : Ref sig .tc} (hr : r ∉ take2W) : after take2 V (Proc.devRef .tc r) = V (Proc.devRef .tc r) :=
  after_of_writes_sub take2 V take2_writes hr

/-- Round 2: the losses, the straight-through value and the next residual. -/
def step2 : List (HloOp τ sig (Elt F)) :=
  [ binary main_v61 main_v79 main_v80 (subf : (⟨S65536x32, .f32⟩ : BufTy).Contents (Elt F) → (⟨S65536x32, .f32⟩ : BufTy).Contents (Elt F) → (⟨S65536x32, .f32⟩ : BufTy).Contents (Elt F)),
    binary main_v80 main_v80 main_v81 (mulf : (⟨S65536x32, .f32⟩ : BufTy).Contents (Elt F) → (⟨S65536x32, .f32⟩ : BufTy).Contents (Elt F) → (⟨S65536x32, .f32⟩ : BufTy).Contents (Elt F)),
    nullary main_cst_18 (constant S_ .f32 0x00000000#32),
    binary main_v81 main_cst_18 main_v82 ((fun x v => Host.reduceAdd x v reducesTo_S65536x32_S_d0_1 h_S_) : (⟨S65536x32, .f32⟩ : BufTy).Contents (Elt F) → (⟨S_, .f32⟩ : BufTy).Contents (Elt F) → (⟨S_, .f32⟩ : BufTy).Contents (Elt F)),
    nullary main_cst_19 (constant S_ .f32 0x4A000000#32),
    binary main_v82 main_cst_19 main_v83 (Host.divf : (⟨S_, .f32⟩ : BufTy).Contents (Elt F) → (⟨S_, .f32⟩ : BufTy).Contents (Elt F) → (⟨S_, .f32⟩ : BufTy).Contents (Elt F)),
    binary main_v53 main_v83 main_v84 (addf : (⟨S_, .f32⟩ : BufTy).Contents (Elt F) → (⟨S_, .f32⟩ : BufTy).Contents (Elt F) → (⟨S_, .f32⟩ : BufTy).Contents (Elt F)),
    binary main_v61 main_v79 main_v85 (subf : (⟨S65536x32, .f32⟩ : BufTy).Contents (Elt F) → (⟨S65536x32, .f32⟩ : BufTy).Contents (Elt F) → (⟨S65536x32, .f32⟩ : BufTy).Contents (Elt F)),
    binary main_v85 main_v85 main_v86 (mulf : (⟨S65536x32, .f32⟩ : BufTy).Contents (Elt F) → (⟨S65536x32, .f32⟩ : BufTy).Contents (Elt F) → (⟨S65536x32, .f32⟩ : BufTy).Contents (Elt F)),
    nullary main_cst_20 (constant S_ .f32 0x00000000#32),
    binary main_v86 main_cst_20 main_v87 ((fun x v => Host.reduceAdd x v reducesTo_S65536x32_S_d0_1 h_S_) : (⟨S65536x32, .f32⟩ : BufTy).Contents (Elt F) → (⟨S_, .f32⟩ : BufTy).Contents (Elt F) → (⟨S_, .f32⟩ : BufTy).Contents (Elt F)),
    nullary main_cst_21 (constant S_ .f32 0x4A000000#32),
    binary main_v87 main_cst_21 main_v88 (Host.divf : (⟨S_, .f32⟩ : BufTy).Contents (Elt F) → (⟨S_, .f32⟩ : BufTy).Contents (Elt F) → (⟨S_, .f32⟩ : BufTy).Contents (Elt F)),
    binary main_v58 main_v88 main_v89 (addf : (⟨S_, .f32⟩ : BufTy).Contents (Elt F) → (⟨S_, .f32⟩ : BufTy).Contents (Elt F) → (⟨S_, .f32⟩ : BufTy).Contents (Elt F)),
    binary main_v79 main_v61 main_v90 (subf : (⟨S65536x32, .f32⟩ : BufTy).Contents (Elt F) → (⟨S65536x32, .f32⟩ : BufTy).Contents (Elt F) → (⟨S65536x32, .f32⟩ : BufTy).Contents (Elt F)),
    binary main_v61 main_v90 main_v91 (addf : (⟨S65536x32, .f32⟩ : BufTy).Contents (Elt F) → (⟨S65536x32, .f32⟩ : BufTy).Contents (Elt F) → (⟨S65536x32, .f32⟩ : BufTy).Contents (Elt F)),
    binary main_v61 main_v79 main_v92 (subf : (⟨S65536x32, .f32⟩ : BufTy).Contents (Elt F) → (⟨S65536x32, .f32⟩ : BufTy).Contents (Elt F) → (⟨S65536x32, .f32⟩ : BufTy).Contents (Elt F)) ]

/-- The buffers that `step2` writes. -/
def step2W : List (Ref sig .tc) := [main_v80, main_v81, main_cst_18, main_v82, main_cst_19, main_v83, main_v84, main_v85, main_v86, main_cst_20, main_v87, main_cst_21, main_v88, main_v89, main_v90, main_v91, main_v92]

/-- The operations that update the sums and the residual in round 2 write only the listed buffers. -/
theorem step2_writes : (step2 : List (HloOp τ sig (Elt F))).Forall fun op => op.writes ⊆ (step2W.map (Proc.devRef (τ := τ) .tc)).toFinset :=
  forall_writes_sub_of_map rfl

/-- The operations that update the sums and the residual in round 2 allocate nothing. -/
theorem step2_fresh : (step2 : List (HloOp τ sig (Elt F))).Forall fun op => op.fresh = ∅ :=
  forall_fresh_of_map rfl

/-- The operations that update the sums and the residual in round 2 touch only buffers of the program. -/
theorem step2_sub : (step2 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., binary_bufs_sub .., binary_bufs_sub .., binary_bufs_sub .., binary_bufs_sub .., binary_bufs_sub ..⟩

/-- `step2` leaves a buffer outside its write list as it was. -/
theorem step2_keep (V : Valuation τ sig (Elt F)) {r : Ref sig .tc} (hr : r ∉ step2W) : after step2 V (Proc.devRef .tc r) = V (Proc.devRef .tc r) :=
  after_of_writes_sub step2 V step2_writes hr

/-- Round 3: the distances, as far as the second window of the program reaches. -/
def dist3a : List (HloOp τ sig (Elt F)) :=
  [ unary main_arg1 main_v93 ((extractStridedSlice S1x1024x32 ![3, 0, 0] · slices_S4x1024x32_S1x1024x32_3_0_0) : (⟨S4x1024x32, .f32⟩ : BufTy).Contents (Elt F) → (⟨S1x1024x32, .f32⟩ : BufTy).Contents (Elt F)),
    reshape main_v93 main_v94 (rfl : (.f32 : EltTy) = .f32) shapeCasts_S1x1024x32_S1024x32,
    binary main_v92 main_v92 main_v95 (mulf : (⟨S65536x32, .f32⟩ : BufTy).Contents (Elt F) → (⟨S65536x32, .f32⟩ : BufTy).Contents (Elt F) → (⟨S65536x32, .f32⟩ : BufTy).Contents (Elt F)),
    nullary main_cst_22 (constant S_ .f32 0x00000000#32) ]

/-- The buffers that `dist3a` writes. -/
def dist3aW : List (Ref sig .tc) := [main_v93, main_v94, main_v95, main_cst_22]

/-- The operations that begin to compute distances in round 3 write only the listed buffers. -/
theorem dist3a_writes : (dist3a : List (HloOp τ sig (Elt F))).Forall fun op => op.writes ⊆ (dist3aW.map (Proc.devRef (τ := τ) .tc)).toFinset :=
  forall_writes_sub_of_map rfl

/-- The operations that begin to compute distances in round 3 allocate nothing. -/
theorem dist3a_fresh : (dist3a : List (HloOp τ sig (Elt F))).Forall fun op => op.fresh = ∅ :=
  forall_fresh_of_map rfl

/-- The operations that begin to compute distances in round 3 touch only buffers of the program. -/
theorem dist3a_sub : (dist3a : List (HloOp τ sig (Elt F))).Forall fun op => op.bufs ⊆ tcRefs τ sig :=
  ⟨unary_bufs_sub .., reshape_bufs_sub .., binary_bufs_sub .., nullary_bufs_sub ..⟩

/-- `dist3a` leaves a buffer outside its write list as it was. -/
theorem dist3a_keep (V : Valuation τ sig (Elt F)) {r : Ref sig .tc} (hr : r ∉ dist3aW) : after dist3a V (Proc.devRef .tc r) = V (Proc.devRef .tc r) :=
  after_of_writes_sub dist3a V dist3a_writes hr

/-- Round 3: the rest of the distances. -/
def dist3b : List (HloOp τ sig (Elt F)) :=
  [ binary main_v95 main_cst_22 main_v96 ((fun x v => Host.reduceAdd x v reducesTo_S65536x32_S65536_d1 h_S_) : (⟨S65536x32, .f32⟩ : BufTy).Contents (Elt F) → (⟨S_, .f32⟩ : BufTy).Contents (Elt F) → (⟨S65536, .f32⟩ : BufTy).Contents (Elt F)),
    unary main_v96 main_v97 (broadcastInDim S65536x1 ![0] bcast_S65536_S65536x1_0 : (⟨S65536, .f32⟩ : BufTy).Contents (Elt F) → (⟨S65536x1, .f32⟩ : BufTy).Contents (Elt F)),
    nullary main_cst_23 (constant S_ .f32 0x40000000#32),
    unary main_cst_23 main_v98 (broadcastInDim S65536x32 ![] bcast_S_S65536x32 : (⟨S_, .f32⟩ : BufTy).Contents (Elt F) → (⟨S65536x32, .f32⟩ : BufTy).Contents (Elt F)),
    binary main_v98 main_v92 main_v99 (mulf : (⟨S65536x32, .f32⟩ : BufTy).Contents (Elt F) → (⟨S65536x32, .f32⟩ : BufTy).Contents (Elt F) → (⟨S65536x32, .f32⟩ : BufTy).Contents (Elt F)),
    unary main_v94 main_v100 ((transpose S32x1024 [1, 0] · transposes_S1024x32_S32x1024_1_0) : (⟨S1024x32, .f32⟩ : BufTy).Contents (Elt F) → (⟨S32x1024, .f32⟩ : BufTy).Contents (Elt F)),
    binary main_v99 main_v100 main_v101 ((fun l r => Host.dotGeneral dot_S65536x32_S32x1024_S65536x1024_1_0_0_1_n_n none l r) : (⟨S65536x32, .f32⟩ : BufTy).Contents (Elt F) → (⟨S32x1024, .f32⟩ : BufTy).Contents (Elt F) → (⟨S65536x1024, .f32⟩ : BufTy).Contents (Elt F)),
    unary main_v97 main_v102 (broadcastInDim S65536x1024 ![0, 1] bcast_S65536x1_S65536x1024_0_1 : (⟨S65536x1, .f32⟩ : BufTy).Contents (Elt F) → (⟨S65536x1024, .f32⟩ : BufTy).Contents (Elt F)),
    binary main_v102 main_v101 main_v103 (subf : (⟨S65536x1024, .f32⟩ : BufTy).Contents (Elt F) → (⟨S65536x1024, .f32⟩ : BufTy).Contents (Elt F) → (⟨S65536x1024, .f32⟩ : BufTy).Contents (Elt F)),
    binary main_v94 main_v94 main_v104 (mulf : (⟨S1024x32, .f32⟩ : BufTy).Contents (Elt F) → (⟨S1024x32, .f32⟩ : BufTy).Contents (Elt F) → (⟨S1024x32, .f32⟩ : BufTy).Contents (Elt F)),
    nullary main_cst_24 (constant S_ .f32 0x00000000#32),
    binary main_v104 main_cst_24 main_v105 ((fun x v => Host.reduceAdd x v reducesTo_S1024x32_S1024_d1 h_S_) : (⟨S1024x32, .f32⟩ : BufTy).Contents (Elt F) → (⟨S_, .f32⟩ : BufTy).Contents (Elt F) → (⟨S1024, .f32⟩ : BufTy).Contents (Elt F)),
    unary main_v105 main_v106 (broadcastInDim S1x1024 ![1] bcast_S1024_S1x1024_1 : (⟨S1024, .f32⟩ : BufTy).Contents (Elt F) → (⟨S1x1024, .f32⟩ : BufTy).Contents (Elt F)),
    unary main_v106 main_v107 (broadcastInDim S65536x1024 ![0, 1] bcast_S1x1024_S65536x1024_0_1 : (⟨S1x1024, .f32⟩ : BufTy).Contents (Elt F) → (⟨S65536x1024, .f32⟩ : BufTy).Contents (Elt F)),
    binary main_v103 main_v107 main_v108 (addf : (⟨S65536x1024, .f32⟩ : BufTy).Contents (Elt F) → (⟨S65536x1024, .f32⟩ : BufTy).Contents (Elt F) → (⟨S65536x1024, .f32⟩ : BufTy).Contents (Elt F)) ]

/-- The buffers that `dist3b` writes. -/
def dist3bW : List (Ref sig .tc) := [main_v96, main_v97, main_cst_23, main_v98, main_v99, main_v100, main_v101, main_v102, main_v103, main_v104, main_cst_24, main_v105, main_v106, main_v107, main_v108]

/-- The operations that finish computing distances in round 3 write only the listed buffers. -/
theorem dist3b_writes : (dist3b : List (HloOp τ sig (Elt F))).Forall fun op => op.writes ⊆ (dist3bW.map (Proc.devRef (τ := τ) .tc)).toFinset :=
  forall_writes_sub_of_map rfl

/-- The operations that finish computing distances in round 3 allocate nothing. -/
theorem dist3b_fresh : (dist3b : List (HloOp τ sig (Elt F))).Forall fun op => op.fresh = ∅ :=
  forall_fresh_of_map rfl

/-- The operations that finish computing distances in round 3 touch only buffers of the program. -/
theorem dist3b_sub : (dist3b : List (HloOp τ sig (Elt F))).Forall fun op => op.bufs ⊆ tcRefs τ sig :=
  ⟨binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

/-- `dist3b` leaves a buffer outside its write list as it was. -/
theorem dist3b_keep (V : Valuation τ sig (Elt F)) {r : Ref sig .tc} (hr : r ∉ dist3bW) : after dist3b V (Proc.devRef .tc r) = V (Proc.devRef .tc r) :=
  after_of_writes_sub dist3b V dist3b_writes hr

/-- Round 3: the nearest code word. -/
def near3 : List (HloOp τ sig (Elt F)) :=
  [ TRef.nullary (TRef.of (T := ⟨S65536x1024, .i32⟩) main_call6_v0) (iotaInDim S65536x1024 32 1),
    TRef.nullary (TRef.of (T := ⟨S_, .f32⟩) main_call6_cst) (constant S_ .f32 0x7F800000#32),
    TRef.nullary (TRef.of (T := ⟨S_, .i32⟩) main_call6_c) (constantI S_ 32 0#32),
    TRef.quaternary (TRef.of (T := ⟨S65536x1024, .f32⟩) main_v108) (TRef.of (T := ⟨S65536x1024, .i32⟩) main_call6_v0) (TRef.of (T := ⟨S_, .f32⟩) main_call6_cst) (TRef.of (T := ⟨S_, .i32⟩) main_call6_c) (TRef.of (T := ⟨S65536, .f32⟩) main_call6_v1_0) (fun x y u v j => (Host.argReduce reducer_argmin_f32_i32 x y u v reducesTo_S65536x1024_S65536_d1 h_S_ j).1),
    TRef.quaternary (TRef.of (T := ⟨S65536x1024, .f32⟩) main_v108) (TRef.of (T := ⟨S65536x1024, .i32⟩) main_call6_v0) (TRef.of (T := ⟨S_, .f32⟩) main_call6_cst) (TRef.of (T := ⟨S_, .i32⟩) main_call6_c) (TRef.of (T := ⟨S65536, .i32⟩) main_v109) (fun x y u v j => (Host.argReduce reducer_argmin_f32_i32 x y u v reducesTo_S65536x1024_S65536_d1 h_S_ j).2) ]

/-- The buffers that `near3` writes. -/
def near3W : List (Ref sig .tc) := [main_call6_v0, main_call6_cst, main_call6_c, main_call6_v1_0, main_v109]

/-- The operations that find the nearest words in round 3 write only the listed buffers. -/
theorem near3_writes : (near3 : List (HloOp τ sig (Elt F))).Forall fun op => op.writes ⊆ (near3W.map (Proc.devRef (τ := τ) .tc)).toFinset :=
  forall_writes_sub_of_map rfl

/-- The operations that find the nearest words in round 3 allocate nothing. -/
theorem near3_fresh : (near3 : List (HloOp τ sig (Elt F))).Forall fun op => op.fresh = ∅ :=
  forall_fresh_of_map rfl

/-- The operations that find the nearest words in round 3 touch only buffers of the program. -/
theorem near3_sub : (near3 : List (HloOp τ sig (Elt F))).Forall fun op => op.bufs ⊆ tcRefs τ sig :=
  ⟨nullary_bufs_sub .., nullary_bufs_sub .., nullary_bufs_sub .., quaternary_bufs_sub .., quaternary_bufs_sub ..⟩

/-- `near3` leaves a buffer outside its write list as it was. -/
theorem near3_keep (V : Valuation τ sig (Elt F)) {r : Ref sig .tc} (hr : r ∉ near3W) : after near3 V (Proc.devRef .tc r) = V (Proc.devRef .tc r) :=
  after_of_writes_sub near3 V near3_writes hr

/-- Round 3: the look-up. -/
def take3 : List (HloOp τ sig (Elt F)) :=
  [ TRef.nullary (TRef.of (T := ⟨S_, .i32⟩) main_call7_c) (constantI S_ 32 0#32),
    TRef.unary (TRef.of (T := ⟨S_, .i32⟩) main_call7_c) (TRef.of (T := ⟨S65536, .i32⟩) main_call7_v0) (broadcastInDim S65536 ![] bcast_S_S65536),
    TRef.binary (TRef.of (T := ⟨S65536, .i32⟩) main_v109) (TRef.of (T := ⟨S65536, .i32⟩) main_call7_v0) (TRef.of (T := ⟨S65536, .i1⟩) main_call7_v1) (cmpi .slt),
    TRef.nullary (TRef.of (T := ⟨S_, .i32⟩) main_call7_c_0) (constantI S_ 32 1024#32),
    TRef.unary (TRef.of (T := ⟨S_, .i32⟩) main_call7_c_0) (TRef.of (T := ⟨S65536, .i32⟩) main_call7_v2) (broadcastInDim S65536 ![] bcast_S_S65536),
    TRef.binary (TRef.of (T := ⟨S65536, .i32⟩) main_v109) (TRef.of (T := ⟨S65536, .i32⟩) main_call7_v2) (TRef.of (T := ⟨S65536, .i32⟩) main_call7_v3) addi,
    TRef.ternary (TRef.of (T := ⟨S65536, .i1⟩) main_call7_v1) (TRef.of (T := ⟨S65536, .i32⟩) main_call7_v3) (TRef.of (T := ⟨S65536, .i32⟩) main_v109) (TRef.of (T := ⟨S65536, .i32⟩) main_call7_v4) select,
    TRef.unary (TRef.of (T := ⟨S65536, .i32⟩) main_call7_v4) (TRef.of (T := ⟨S65536x1, .i32⟩) main_call7_v5) (broadcastInDim S65536x1 ![0] bcast_S65536_S65536x1_0),
    TRef.nullary (TRef.of (T := ⟨S1, .i32⟩) main_call7_c_1) (constantI S1 32 1023#32),
    TRef.nullary (TRef.of (T := ⟨S_, .i32⟩) main_call7_c_2) (constantI S_ 32 0#32),
    TRef.unary (TRef.of (T := ⟨S_, .i32⟩) main_call7_c_2) (TRef.of (T := ⟨S65536x1, .i32⟩) main_call7_v6) (broadcastInDim S65536x1 ![] bcast_S_S65536x1),
    TRef.binary (TRef.of (T := ⟨S65536x1, .i32⟩) main_call7_v5) (TRef.of (T := ⟨S65536x1, .i32⟩) main_call7_v6) (TRef.of (T := ⟨S65536x1, .i1⟩) main_call7_v7) (cmpi .sge),
    TRef.unary (TRef.of (T := ⟨S1, .i32⟩) main_call7_c_1) (TRef.of (T := ⟨S1x1, .i32⟩) main_call7_v8) (broadcastInDim S1x1 ![1] bcast_S1_S1x1_1),
    TRef.unary (TRef.of (T := ⟨S1x1, .i32⟩) main_call7_v8) (TRef.of (T := ⟨S65536x1, .i32⟩) main_call7_v9) (broadcastInDim S65536x1 ![0, 1] bcast_S1x1_S65536x1_0_1),
    TRef.binary (TRef.of (T := ⟨S65536x1, .i32⟩) main_call7_v5) (TRef.of (T := ⟨S65536x1, .i32⟩) main_call7_v9) (TRef.of (T := ⟨S65536x1, .i1⟩) main_call7_v10) (cmpi .sle),
    TRef.binary (TRef.of (T := ⟨S65536x1, .i1⟩) main_call7_v7) (TRef.of (T := ⟨S65536x1, .i1⟩) main_call7_v10) (TRef.of (T := ⟨S65536x1, .i1⟩) main_call7_v11) andi,
    TRef.nullary (TRef.of (T := ⟨S_, .i1⟩) main_call7_c_3) (constantI S_ 1 1#1),
    TRef.binary (TRef.of (T := ⟨S65536x1, .i1⟩) main_call7_v11) (TRef.of (T := ⟨S_, .i1⟩) main_call7_c_3) (TRef.of (T := ⟨S65536, .i1⟩) main_call7_v12) (fun x v => Host.reduce IntOp.andi x v reducesTo_S65536x1_S65536_d1 h_S_),
    TRef.binary (TRef.of (T := ⟨S1024x32, .f32⟩) main_v94) (TRef.of (T := ⟨S65536x1, .i32⟩) main_call7_v5) (TRef.of (T := ⟨S65536x32, .f32⟩) main_call7_v13) (fun x i => Host.gather gather_S1024x32_S65536x1_S65536x32_1_0_n_n_0_1_132 x i),
    TRef.unary (TRef.of (T := ⟨S65536, .i1⟩) main_call7_v12) (TRef.of (T := ⟨S65536x32, .i1⟩) main_call7_v14) (broadcastInDim S65536x32 ![0] bcast_S65536_S65536x32_0),
    TRef.nullary (TRef.of (T := ⟨S_, .f32⟩) main_call7_cst) (constant S_ .f32 0x7FC00000#32),
    TRef.unary (TRef.of (T := ⟨S_, .f32⟩) main_call7_cst) (TRef.of (T := ⟨S65536x32, .f32⟩) main_call7_v15) (broadcastInDim S65536x32 ![] bcast_S_S65536x32),
    TRef.ternary (TRef.of (T := ⟨S65536x32, .i1⟩) main_call7_v14) (TRef.of (T := ⟨S65536x32, .f32⟩) main_call7_v13) (TRef.of (T := ⟨S65536x32, .f32⟩) main_call7_v15) (TRef.of (T := ⟨S65536x32, .f32⟩) main_v110) select ]

/-- The buffers that `take3` writes. -/
def take3W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v110]

/-- The operations that look the words up in round 3 write only the listed buffers. -/
theorem take3_writes : (take3 : List (HloOp τ sig (Elt F))).Forall fun op => op.writes ⊆ (take3W.map (Proc.devRef (τ := τ) .tc)).toFinset :=
  forall_writes_sub_of_map rfl

/-- The operations that look the words up in round 3 allocate nothing. -/
theorem take3_fresh : (take3 : List (HloOp τ sig (Elt F))).Forall fun op => op.fresh = ∅ :=
  forall_fresh_of_map rfl

/-- The operations that look the words up in round 3 touch only buffers of the program. -/
theorem take3_sub : (take3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- `take3` leaves a buffer outside its write list as it was. -/
theorem take3_keep (V : Valuation τ sig (Elt F)) {r : Ref sig .tc} (hr : r ∉ take3W) : after take3 V (Proc.devRef .tc r) = V (Proc.devRef .tc r) :=
  after_of_writes_sub take3 V take3_writes hr

/-- Round 3: the losses, the straight-through value and the next residual. -/
def step3 : List (HloOp τ sig (Elt F)) :=
  [ binary main_v92 main_v110 main_v111 (subf : (⟨S65536x32, .f32⟩ : BufTy).Contents (Elt F) → (⟨S65536x32, .f32⟩ : BufTy).Contents (Elt F) → (⟨S65536x32, .f32⟩ : BufTy).Contents (Elt F)),
    binary main_v111 main_v111 main_v112 (mulf : (⟨S65536x32, .f32⟩ : BufTy).Contents (Elt F) → (⟨S65536x32, .f32⟩ : BufTy).Contents (Elt F) → (⟨S65536x32, .f32⟩ : BufTy).Contents (Elt F)),
    nullary main_cst_25 (constant S_ .f32 0x00000000#32),
    binary main_v112 main_cst_25 main_v113 ((fun x v => Host.reduceAdd x v reducesTo_S65536x32_S_d0_1 h_S_) : (⟨S65536x32, .f32⟩ : BufTy).Contents (Elt F) → (⟨S_, .f32⟩ : BufTy).Contents (Elt F) → (⟨S_, .f32⟩ : BufTy).Contents (Elt F)),
    nullary main_cst_26 (constant S_ .f32 0x4A000000#32),
    binary main_v113 main_cst_26 main_v114 (Host.divf : (⟨S_, .f32⟩ : BufTy).Contents (Elt F) → (⟨S_, .f32⟩ : BufTy).Contents (Elt F) → (⟨S_, .f32⟩ : BufTy).Contents (Elt F)),
    binary main_v84 main_v114 main_v115 (addf : (⟨S_, .f32⟩ : BufTy).Contents (Elt F) → (⟨S_, .f32⟩ : BufTy).Contents (Elt F) → (⟨S_, .f32⟩ : BufTy).Contents (Elt F)),
    binary main_v92 main_v110 main_v116 (subf : (⟨S65536x32, .f32⟩ : BufTy).Contents (Elt F) → (⟨S65536x32, .f32⟩ : BufTy).Contents (Elt F) → (⟨S65536x32, .f32⟩ : BufTy).Contents (Elt F)),
    binary main_v116 main_v116 main_v117 (mulf : (⟨S65536x32, .f32⟩ : BufTy).Contents (Elt F) → (⟨S65536x32, .f32⟩ : BufTy).Contents (Elt F) → (⟨S65536x32, .f32⟩ : BufTy).Contents (Elt F)),
    nullary main_cst_27 (constant S_ .f32 0x00000000#32),
    binary main_v117 main_cst_27 main_v118 ((fun x v => Host.reduceAdd x v reducesTo_S65536x32_S_d0_1 h_S_) : (⟨S65536x32, .f32⟩ : BufTy).Contents (Elt F) → (⟨S_, .f32⟩ : BufTy).Contents (Elt F) → (⟨S_, .f32⟩ : BufTy).Contents (Elt F)),
    nullary main_cst_28 (constant S_ .f32 0x4A000000#32),
    binary main_v118 main_cst_28 main_v119 (Host.divf : (⟨S_, .f32⟩ : BufTy).Contents (Elt F) → (⟨S_, .f32⟩ : BufTy).Contents (Elt F) → (⟨S_, .f32⟩ : BufTy).Contents (Elt F)),
    binary main_v89 main_v119 main_v120 (addf : (⟨S_, .f32⟩ : BufTy).Contents (Elt F) → (⟨S_, .f32⟩ : BufTy).Contents (Elt F) → (⟨S_, .f32⟩ : BufTy).Contents (Elt F)),
    binary main_v110 main_v92 main_v121 (subf : (⟨S65536x32, .f32⟩ : BufTy).Contents (Elt F) → (⟨S65536x32, .f32⟩ : BufTy).Contents (Elt F) → (⟨S65536x32, .f32⟩ : BufTy).Contents (Elt F)),
    binary main_v92 main_v121 main_v122 (addf : (⟨S65536x32, .f32⟩ : BufTy).Contents (Elt F) → (⟨S65536x32, .f32⟩ : BufTy).Contents (Elt F) → (⟨S65536x32, .f32⟩ : BufTy).Contents (Elt F)),
    binary main_v92 main_v110 main_v123 (subf : (⟨S65536x32, .f32⟩ : BufTy).Contents (Elt F) → (⟨S65536x32, .f32⟩ : BufTy).Contents (Elt F) → (⟨S65536x32, .f32⟩ : BufTy).Contents (Elt F)) ]

/-- The buffers that `step3` writes. -/
def step3W : List (Ref sig .tc) := [main_v111, main_v112, main_cst_25, main_v113, main_cst_26, main_v114, main_v115, main_v116, main_v117, main_cst_27, main_v118, main_cst_28, main_v119, main_v120, main_v121, main_v122, main_v123]

/-- The operations that update the sums and the residual in round 3 write only the listed buffers. -/
theorem step3_writes : (step3 : List (HloOp τ sig (Elt F))).Forall fun op => op.writes ⊆ (step3W.map (Proc.devRef (τ := τ) .tc)).toFinset :=
  forall_writes_sub_of_map rfl

/-- The operations that update the sums and the residual in round 3 allocate nothing. -/
theorem step3_fresh : (step3 : List (HloOp τ sig (Elt F))).Forall fun op => op.fresh = ∅ :=
  forall_fresh_of_map rfl

/-- The operations that update the sums and the residual in round 3 touch only buffers of the program. -/
theorem step3_sub : (step3 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., binary_bufs_sub .., binary_bufs_sub .., binary_bufs_sub .., binary_bufs_sub .., binary_bufs_sub ..⟩

/-- `step3` leaves a buffer outside its write list as it was. -/
theorem step3_keep (V : Valuation τ sig (Elt F)) {r : Ref sig .tc} (hr : r ∉ step3W) : after step3 V (Proc.devRef .tc r) = V (Proc.devRef .tc r) :=
  after_of_writes_sub step3 V step3_writes hr

/-- The two results: the sum of the four straight-through values, and the weighted loss. -/
def last : List (HloOp τ sig (Elt F)) :=
  [ unary main_v29 main_v124 (broadcastInDim S1x65536x32 ![1, 2] bcast_S65536x32_S1x65536x32_1_2 : (⟨S65536x32, .f32⟩ : BufTy).Contents (Elt F) → (⟨S1x65536x32, .f32⟩ : BufTy).Contents (Elt F)),
    unary main_v60 main_v125 (broadcastInDim S1x65536x32 ![1, 2] bcast_S65536x32_S1x65536x32_1_2 : (⟨S65536x32, .f32⟩ : BufTy).Contents (Elt F) → (⟨S1x65536x32, .f32⟩ : BufTy).Contents (Elt F)),
    unary main_v91 main_v126 (broadcastInDim S1x65536x32 ![1, 2] bcast_S65536x32_S1x65536x32_1_2 : (⟨S65536x32, .f32⟩ : BufTy).Contents (Elt F) → (⟨S1x65536x32, .f32⟩ : BufTy).Contents (Elt F)),
    unary main_v122 main_v127 (broadcastInDim S1x65536x32 ![1, 2] bcast_S65536x32_S1x65536x32_1_2 : (⟨S65536x32, .f32⟩ : BufTy).Contents (Elt F) → (⟨S1x65536x32, .f32⟩ : BufTy).Contents (Elt F)),
    nary ![main_v124, main_v125, main_v126, main_v127] main_v128 (fun u => (concatenate S4x65536x32 0 [⟨S1x65536x32, (u 0 : (⟨S1x65536x32, .f32⟩ : BufTy).Contents (Elt F))⟩, ⟨S1x65536x32, (u 1 : (⟨S1x65536x32, .f32⟩ : BufTy).Contents (Elt F))⟩, ⟨S1x65536x32, (u 2 : (⟨S1x65536x32, .f32⟩ : BufTy).Contents (Elt F))⟩, ⟨S1x65536x32, (u 3 : (⟨S1x65536x32, .f32⟩ : BufTy).Contents (Elt F))⟩] concatenates_S1x65536x32_S1x65536x32_S1x65536x32_S1x65536x32_S4x65536x32_d0 : (⟨S4x65536x32, .f32⟩ : BufTy).Contents (Elt F))),
    nullary main_cst_29 (constant S_ .f32 0x00000000#32),
    binary main_v128 main_cst_29 main_v129 ((fun x v => Host.reduceAdd x v reducesTo_S4x65536x32_S65536x32_d0 h_S_) : (⟨S4x65536x32, .f32⟩ : BufTy).Contents (Elt F) → (⟨S_, .f32⟩ : BufTy).Contents (Elt F) → (⟨S65536x32, .f32⟩ : BufTy).Contents (Elt F)),
    nullary main_cst_30 (constant S_ .f32 0x3E800000#32),
    binary main_cst_30 main_v120 main_v130 (mulf : (⟨S_, .f32⟩ : BufTy).Contents (Elt F) → (⟨S_, .f32⟩ : BufTy).Contents (Elt F) → (⟨S_, .f32⟩ : BufTy).Contents (Elt F)),
    binary main_v115 main_v130 main_v131 (addf : (⟨S_, .f32⟩ : BufTy).Contents (Elt F) → (⟨S_, .f32⟩ : BufTy).Contents (Elt F) → (⟨S_, .f32⟩ : BufTy).Contents (Elt F)) ]

/-- The buffers that `last` writes. -/
def lastW : List (Ref sig .tc) := [main_v124, main_v125, main_v126, main_v127, main_v128, main_cst_29, main_v129, main_cst_30, main_v130, main_v131]

/-- The operations that form the two results write only the listed buffers. -/
theorem last_writes : (last : List (HloOp τ sig (Elt F))).Forall fun op => op.writes ⊆ (lastW.map (Proc.devRef (τ := τ) .tc)).toFinset :=
  forall_writes_sub_of_map rfl

/-- The operations that form the two results allocate nothing. -/
theorem last_fresh : (last : List (HloOp τ sig (Elt F))).Forall fun op => op.fresh = ∅ :=
  forall_fresh_of_map rfl

/-- The operations that form the two results touch only buffers of the program. -/
theorem last_sub : (last : List (HloOp τ sig (Elt F))).Forall fun op => op.bufs ⊆ tcRefs τ sig :=
  ⟨unary_bufs_sub .., unary_bufs_sub .., unary_bufs_sub .., unary_bufs_sub .., nary_bufs_sub .., nullary_bufs_sub .., binary_bufs_sub .., nullary_bufs_sub .., binary_bufs_sub .., binary_bufs_sub ..⟩

/-- `last` leaves a buffer outside its write list as it was. -/
theorem last_keep (V : Valuation τ sig (Elt F)) {r : Ref sig .tc} (hr : r ∉ lastW) : after last V (Proc.devRef .tc r) = V (Proc.devRef .tc r) :=
  after_of_writes_sub last V last_writes hr

/-- The operations of the program's window 0. -/
def window0 : List (HloOp τ sig (Elt F)) :=
  dist0 ++ (near0 ++ (take0 ++ (step0 ++ (dist1 ++ (near1)))))

/-- The program's window 0 is the line of these lists. -/
theorem part0_eq (c : Dev nD) : main_part0 (F := F) c = seq window0 := rfl

/-- The operations of the program's window 1. -/
def window1 : List (HloOp τ sig (Elt F)) :=
  take1 ++ (step1 ++ (dist2 ++ (near2 ++ (take2 ++ (step2 ++ (dist3a))))))

/-- The program's window 1 is the line of these lists. -/
theorem part1_eq (c : Dev nD) : main_part1 (F := F) c = seq window1 := rfl

/-- The operations of the program's window 2. -/
def window2 : List (HloOp τ sig (Elt F)) :=
  dist3b ++ (near3 ++ (take3 ++ (step3 ++ (last))))

/-- The program's window 2 is the line of these lists. -/
theorem part2_eq (c : Dev nD) : main_part2 (F := F) c = seq window2 := rfl

/-- All the operations, in order. -/
def ops : List (HloOp τ sig (Elt F)) := window0 ++ (window1 ++ window2)

/-- The program is that line. -/
theorem main_eq (c : Dev nD) : main (F := F) c = seq ops := by
  simp only [ops, seq_append, ← part0_eq c, ← part1_eq c, ← part2_eq c]
  rfl

/-- All operations of the reference touch only buffers of the program. -/
theorem ops_sub : ∀ op ∈ (ops : List (HloOp τ sig (Elt F))), op.bufs ⊆ tcRefs τ sig := fun op h => by
  simp only [ops, window0, window1, window2, List.mem_append, or_assoc] at h
  rcases h with h | h | h | h | h | h | h | h | h | h | h | h | h | h | h | h | h | h
  exacts [List.forall_iff_forall_mem.mp dist0_sub op h, List.forall_iff_forall_mem.mp near0_sub op h, List.forall_iff_forall_mem.mp take0_sub op h, List.forall_iff_forall_mem.mp step0_sub op h, List.forall_iff_forall_mem.mp dist1_sub op h, List.forall_iff_forall_mem.mp near1_sub op h, List.forall_iff_forall_mem.mp take1_sub op h, List.forall_iff_forall_mem.mp step1_sub op h, List.forall_iff_forall_mem.mp dist2_sub op h, List.forall_iff_forall_mem.mp near2_sub op h, List.forall_iff_forall_mem.mp take2_sub op h, List.forall_iff_forall_mem.mp step2_sub op h, List.forall_iff_forall_mem.mp dist3a_sub op h, List.forall_iff_forall_mem.mp dist3b_sub op h, List.forall_iff_forall_mem.mp near3_sub op h, List.forall_iff_forall_mem.mp take3_sub op h, List.forall_iff_forall_mem.mp step3_sub op h, List.forall_iff_forall_mem.mp last_sub op h]

/-- No operation of the reference allocates. -/
theorem ops_fresh : ∀ op ∈ (ops : List (HloOp τ sig (Elt F))), op.fresh = ∅ := fun op h => by
  simp only [ops, window0, window1, window2, List.mem_append, or_assoc] at h
  rcases h with h | h | h | h | h | h | h | h | h | h | h | h | h | h | h | h | h | h
  exacts [List.forall_iff_forall_mem.mp dist0_fresh op h, List.forall_iff_forall_mem.mp near0_fresh op h, List.forall_iff_forall_mem.mp take0_fresh op h, List.forall_iff_forall_mem.mp step0_fresh op h, List.forall_iff_forall_mem.mp dist1_fresh op h, List.forall_iff_forall_mem.mp near1_fresh op h, List.forall_iff_forall_mem.mp take1_fresh op h, List.forall_iff_forall_mem.mp step1_fresh op h, List.forall_iff_forall_mem.mp dist2_fresh op h, List.forall_iff_forall_mem.mp near2_fresh op h, List.forall_iff_forall_mem.mp take2_fresh op h, List.forall_iff_forall_mem.mp step2_fresh op h, List.forall_iff_forall_mem.mp dist3a_fresh op h, List.forall_iff_forall_mem.mp dist3b_fresh op h, List.forall_iff_forall_mem.mp near3_fresh op h, List.forall_iff_forall_mem.mp take3_fresh op h, List.forall_iff_forall_mem.mp step3_fresh op h, List.forall_iff_forall_mem.mp last_fresh op h]

/-- The reference has no scoped buffers. -/
theorem scopedRefs_eq : (Finset.univ.filter fun b : Ref sig .tc => b.isScoped) = ∅ := by decide
/-- The reference has no scoped semaphores. -/
theorem scopedSems_eq : (Finset.univ.filter fun sm : SemLoc sig => sm.isScoped .tc) = ∅ := by decide

/-- Every weakly fair execution terminates, and each buffer holds what the line of operations leaves in it. -/
theorem run_ops (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq scopedRefs_eq scopedSems_eq defs main (fun _ => ops) main_eq
    (fun _ => List.forall_iff_forall_mem.mpr ops_sub) m ρ (fun _ => ops_fresh)

end Cert.ReferenceIdeal.Rounds

end
-- ==== Proof.RefRun.lean ====
/- What the reference's results hold: each list of Proof/RefOps.lean read as one named function of the buffers it reads
   (`distOf`, `nearOf`, `takeOf`, the losses, the straight-through value), the rounds composed, and the run. -/
module

public import proofs.«01_k».proof.Proof.RefOps

@[expose] public section

set_option maxRecDepth 16384

noncomputable section

namespace Cert.ReferenceIdeal.Rounds

open Idealize.ShloMosaic Idealize.ShloMosaic.StableHlo Idealize.SL.Sem Cert.ReferenceIdeal Cert.ReferenceIdeal.Facts₀ Cert.ReferenceIdeal.Facts

variable {F : FTy → Type} [FloatOps F]

/-- The scalar zero that each sum starts from. -/
def zero : FVec F S_ .f32 := constant S_ .f32 0x00000000#32

/-- The squared distances of the rows of `r` to the rows of `W`: `|r|² − (2r)·W + |W|²`. -/
def distOf (r : FVec F S65536x32 .f32) (W : FVec F S1024x32 .f32) : FVec F S65536x1024 .f32 :=
  addf (subf (broadcastInDim S65536x1024 ![0, 1] bcast_S65536x1_S65536x1024_0_1
        (broadcastInDim S65536x1 ![0] bcast_S65536_S65536x1_0 (Host.reduceAdd (mulf r r) zero reducesTo_S65536x32_S65536_d1 h_S_)))
      (Host.dotGeneral dot_S65536x32_S32x1024_S65536x1024_1_0_0_1_n_n none
        (mulf (broadcastInDim S65536x32 ![] bcast_S_S65536x32 (constant S_ .f32 0x40000000#32)) r)
        (transpose S32x1024 [1, 0] W transposes_S1024x32_S32x1024_1_0)))
    (broadcastInDim S65536x1024 ![0, 1] bcast_S1x1024_S65536x1024_0_1
      (broadcastInDim S1x1024 ![1] bcast_S1024_S1x1024_1 (Host.reduceAdd (mulf W W) zero reducesTo_S1024x32_S1024_d1 h_S_)))

/-- The position of each row's first smallest distance. -/
def nearOf (D : FVec F S65536x1024 .f32) : IVec S65536 32 := fun j =>
  (Host.argReduce reducer_argmin_f32_i32 D (iotaInDim S65536x1024 32 1) (constant S_ .f32 0x7F800000#32) (constantI S_ 32 0#32)
    reducesTo_S65536x1024_S65536_d1 h_S_ j).2

/-- An index counted from the end made one counted from the start, as a column. -/
def wrapOf (idx : IVec S65536 32) : IVec S65536x1 32 :=
  broadcastInDim S65536x1 ![0] bcast_S65536_S65536x1_0
    (select (cmpi .slt idx (broadcastInDim S65536 ![] bcast_S_S65536 (constantI S_ 32 0#32)))
      (addi idx (broadcastInDim S65536 ![] bcast_S_S65536 (constantI S_ 32 1024#32))) idx)

/-- Which rows' indices lie inside the code book. -/
def insideOf (k : IVec S65536x1 32) : IVec S65536 1 :=
  Host.reduce IntOp.andi
    (andi (cmpi .sge k (broadcastInDim S65536x1 ![] bcast_S_S65536x1 (constantI S_ 32 0#32)))
      (cmpi .sle k (broadcastInDim S65536x1 ![0, 1] bcast_S1x1_S65536x1_0_1 (broadcastInDim S1x1 ![1] bcast_S1_S1x1_1 (constantI S1 32 1023#32)))))
    (constantI S_ 1 1#1) reducesTo_S65536x1_S65536_d1 h_S_

/-- The rows of `W` at the indices `idx`. -/
def takeOf (W : FVec F S1024x32 .f32) (idx : IVec S65536 32) : FVec F S65536x32 .f32 :=
  select (broadcastInDim S65536x32 ![0] bcast_S65536_S65536x32_0 (insideOf (wrapOf idx)))
    (Host.gather gather_S1024x32_S65536x1_S65536x32_1_0_n_n_0_1_132 W (wrapOf idx))
    (broadcastInDim S65536x32 ![] bcast_S_S65536x32 (constant S_ .f32 0x7FC00000#32))

/-- The mean square of `r - q`. -/
def meanSq (r q : FVec F S65536x32 .f32) : FVec F S_ .f32 :=
  Host.divf (Host.reduceAdd (mulf (subf r q) (subf r q)) zero reducesTo_S65536x32_S_d0_1 h_S_) (constant S_ .f32 0x4A000000#32)

/-- The straight-through value `r + (q - r)`. -/
def steOf (r q : FVec F S65536x32 .f32) : FVec F S65536x32 .f32 := addf r (subf q r)

/-- The code words nearest to the rows of `r`. -/
def quantOf (r : FVec F S65536x32 .f32) (W : FVec F S1024x32 .f32) : FVec F S65536x32 .f32 := takeOf W (nearOf (distOf r W))

/-- Code book 0. -/
def code0 (cb : FVec F S4x1024x32 .f32) : FVec F S1024x32 .f32 :=
  shapeCast S1024x32 (extractStridedSlice S1x1024x32 ![0, 0, 0] cb slices_S4x1024x32_S1x1024x32_0_0_0) shapeCasts_S1x1024x32_S1024x32

/-- Code book 1. -/
def code1 (cb : FVec F S4x1024x32 .f32) : FVec F S1024x32 .f32 :=
  shapeCast S1024x32 (extractStridedSlice S1x1024x32 ![1, 0, 0] cb slices_S4x1024x32_S1x1024x32_1_0_0) shapeCasts_S1x1024x32_S1024x32

/-- Code book 2. -/
def code2 (cb : FVec F S4x1024x32 .f32) : FVec F S1024x32 .f32 :=
  shapeCast S1024x32 (extractStridedSlice S1x1024x32 ![2, 0, 0] cb slices_S4x1024x32_S1x1024x32_2_0_0) shapeCasts_S1x1024x32_S1024x32

/-- Code book 3. -/
def code3 (cb : FVec F S4x1024x32 .f32) : FVec F S1024x32 .f32 :=
  shapeCast S1024x32 (extractStridedSlice S1x1024x32 ![3, 0, 0] cb slices_S4x1024x32_S1x1024x32_3_0_0) shapeCasts_S1x1024x32_S1024x32

/-- The sum of four arrays stacked. -/
def sum4 (a b c d : FVec F S65536x32 .f32) : FVec F S65536x32 .f32 :=
  Host.reduceAdd (concatenate S4x65536x32 0
    [⟨S1x65536x32, broadcastInDim S1x65536x32 ![1, 2] bcast_S65536x32_S1x65536x32_1_2 a⟩,
     ⟨S1x65536x32, broadcastInDim S1x65536x32 ![1, 2] bcast_S65536x32_S1x65536x32_1_2 b⟩,
     ⟨S1x65536x32, broadcastInDim S1x65536x32 ![1, 2] bcast_S65536x32_S1x65536x32_1_2 c⟩,
     ⟨S1x65536x32, broadcastInDim S1x65536x32 ![1, 2] bcast_S65536x32_S1x65536x32_1_2 d⟩]
    concatenates_S1x65536x32_S1x65536x32_S1x65536x32_S1x65536x32_S4x65536x32_d0) zero reducesTo_S4x65536x32_S65536x32_d0 h_S_

/-- The distance operations of round 0 leave code book 0 in its buffer. -/
theorem dist0_code (V : Valuation τ sig (Elt F)) : after dist0 V (Proc.devRef .tc main_v1) = code0 (V (Proc.devRef .tc main_arg1)) := by
  simp only [dist0]; after_results_simp; rfl

set_option maxHeartbeats 1000000 in
/-- The distance operations of round 0 leave the distances between the residuals and the words of code book 0. -/
theorem dist0_dist (V : Valuation τ sig (Elt F)) :
    after dist0 V (Proc.devRef .tc main_v15) = distOf (V (Proc.devRef .tc main_arg0)) (code0 (V (Proc.devRef .tc main_arg1))) := by
  simp only [dist0]; after_results_simp; rfl

/-- The argmin of round 0 leaves the positions of the nearest words. -/
theorem near0_near (V : Valuation τ sig (Elt F)) : after near0 V (Proc.devRef .tc main_v16) = nearOf (V (Proc.devRef .tc main_v15)) := by
  simp only [near0, TRef.nullary, TRef.unary, TRef.binary, TRef.ternary, TRef.quaternary, TRef.toBuf, TRef.ofBuf, cast_eq]; after_results_simp; rfl

set_option maxHeartbeats 1000000 in
/-- The gather of round 0 leaves the words at those positions. -/
theorem take0_take (V : Valuation τ sig (Elt F)) :
    after take0 V (Proc.devRef .tc main_v17) = takeOf (V (Proc.devRef .tc main_v1)) (V (Proc.devRef .tc main_v16)) := by
  simp only [take0, TRef.nullary, TRef.unary, TRef.binary, TRef.ternary, TRef.quaternary, TRef.toBuf, TRef.ofBuf, cast_eq]; after_results_simp; rfl

/-- The last operations of round 0 add the mean squared difference to the running sum that counts in full. -/
theorem step0_loss (V : Valuation τ sig (Elt F)) :
    after step0 V (Proc.devRef .tc main_v22) = addf zero (meanSq (V (Proc.devRef .tc main_arg0)) (V (Proc.devRef .tc main_v17))) := by
  simp only [step0]; after_results_simp; rfl

/-- The last operations of round 0 add the mean squared difference to the running sum that counts for a quarter. -/
theorem step0_commit (V : Valuation τ sig (Elt F)) :
    after step0 V (Proc.devRef .tc main_v27) = addf zero (meanSq (V (Proc.devRef .tc main_arg0)) (V (Proc.devRef .tc main_v17))) := by
  simp only [step0]; after_results_simp; rfl

/-- The last operations of round 0 leave the residual plus the difference of word and residual. -/
theorem step0_ste (V : Valuation τ sig (Elt F)) : after step0 V (Proc.devRef .tc main_v29) = steOf (V (Proc.devRef .tc main_arg0)) (V (Proc.devRef .tc main_v17)) := by
  simp only [step0]; after_results_simp; rfl

/-- The last operations of round 0 leave the residual minus the word. -/
theorem step0_next (V : Valuation τ sig (Elt F)) :
    after step0 V (Proc.devRef .tc main_v30) = subf (V (Proc.devRef .tc main_arg0)) (V (Proc.devRef .tc main_v17)) := by
  simp only [step0]; after_results_simp

/-- The distance operations of round 1 leave code book 1 in its buffer. -/
theorem dist1_code (V : Valuation τ sig (Elt F)) : after dist1 V (Proc.devRef .tc main_v32) = code1 (V (Proc.devRef .tc main_arg1)) := by
  simp only [dist1]; after_results_simp; rfl

set_option maxHeartbeats 1000000 in
/-- The distance operations of round 1 leave the distances between the residuals and the words of code book 1. -/
theorem dist1_dist (V : Valuation τ sig (Elt F)) :
    after dist1 V (Proc.devRef .tc main_v46) = distOf (V (Proc.devRef .tc main_v30)) (code1 (V (Proc.devRef .tc main_arg1))) := by
  simp only [dist1]; after_results_simp; rfl

/-- The argmin of round 1 leaves the positions of the nearest words. -/
theorem near1_near (V : Valuation τ sig (Elt F)) : after near1 V (Proc.devRef .tc main_v47) = nearOf (V (Proc.devRef .tc main_v46)) := by
  simp only [near1, TRef.nullary, TRef.unary, TRef.binary, TRef.ternary, TRef.quaternary, TRef.toBuf, TRef.ofBuf, cast_eq]; after_results_simp; rfl

set_option maxHeartbeats 1000000 in
/-- The gather of round 1 leaves the words at those positions. -/
theorem take1_take (V : Valuation τ sig (Elt F)) :
    after take1 V (Proc.devRef .tc main_v48) = takeOf (V (Proc.devRef .tc main_v32)) (V (Proc.devRef .tc main_v47)) := by
  simp only [take1, TRef.nullary, TRef.unary, TRef.binary, TRef.ternary, TRef.quaternary, TRef.toBuf, TRef.ofBuf, cast_eq]; after_results_simp; rfl

/-- The last operations of round 1 add the mean squared difference to the running sum that counts in full. -/
theorem step1_loss (V : Valuation τ sig (Elt F)) :
    after step1 V (Proc.devRef .tc main_v53) = addf (V (Proc.devRef .tc main_v22)) (meanSq (V (Proc.devRef .tc main_v30)) (V (Proc.devRef .tc main_v48))) := by
  simp only [step1]; after_results_simp; rfl

/-- The last operations of round 1 add the mean squared difference to the running sum that counts for a quarter. -/
theorem step1_commit (V : Valuation τ sig (Elt F)) :
    after step1 V (Proc.devRef .tc main_v58) = addf (V (Proc.devRef .tc main_v27)) (meanSq (V (Proc.devRef .tc main_v30)) (V (Proc.devRef .tc main_v48))) := by
  simp only [step1]; after_results_simp; rfl

/-- The last operations of round 1 leave the residual plus the difference of word and residual. -/
theorem step1_ste (V : Valuation τ sig (Elt F)) : after step1 V (Proc.devRef .tc main_v60) = steOf (V (Proc.devRef .tc main_v30)) (V (Proc.devRef .tc main_v48)) := by
  simp only [step1]; after_results_simp; rfl

/-- The last operations of round 1 leave the residual minus the word. -/
theorem step1_next (V : Valuation τ sig (Elt F)) :
    after step1 V (Proc.devRef .tc main_v61) = subf (V (Proc.devRef .tc main_v30)) (V (Proc.devRef .tc main_v48)) := by
  simp only [step1]; after_results_simp

/-- The distance operations of round 2 leave code book 2 in its buffer. -/
theorem dist2_code (V : Valuation τ sig (Elt F)) : after dist2 V (Proc.devRef .tc main_v63) = code2 (V (Proc.devRef .tc main_arg1)) := by
  simp only [dist2]; after_results_simp; rfl

set_option maxHeartbeats 1000000 in
/-- The distance operations of round 2 leave the distances between the residuals and the words of code book 2. -/
theorem dist2_dist (V : Valuation τ sig (Elt F)) :
    after dist2 V (Proc.devRef .tc main_v77) = distOf (V (Proc.devRef .tc main_v61)) (code2 (V (Proc.devRef .tc main_arg1))) := by
  simp only [dist2]; after_results_simp; rfl

/-- The argmin of round 2 leaves the positions of the nearest words. -/
theorem near2_near (V : Valuation τ sig (Elt F)) : after near2 V (Proc.devRef .tc main_v78) = nearOf (V (Proc.devRef .tc main_v77)) := by
  simp only [near2, TRef.nullary, TRef.unary, TRef.binary, TRef.ternary, TRef.quaternary, TRef.toBuf, TRef.ofBuf, cast_eq]; after_results_simp; rfl

set_option maxHeartbeats 1000000 in
/-- The gather of round 2 leaves the words at those positions. -/
theorem take2_take (V : Valuation τ sig (Elt F)) :
    after take2 V (Proc.devRef .tc main_v79) = takeOf (V (Proc.devRef .tc main_v63)) (V (Proc.devRef .tc main_v78)) := by
  simp only [take2, TRef.nullary, TRef.unary, TRef.binary, TRef.ternary, TRef.quaternary, TRef.toBuf, TRef.ofBuf, cast_eq]; after_results_simp; rfl

/-- The last operations of round 2 add the mean squared difference to the running sum that counts in full. -/
theorem step2_loss (V : Valuation τ sig (Elt F)) :
    after step2 V (Proc.devRef .tc main_v84) = addf (V (Proc.devRef .tc main_v53)) (meanSq (V (Proc.devRef .tc main_v61)) (V (Proc.devRef .tc main_v79))) := by
  simp only [step2]; after_results_simp; rfl

/-- The last operations of round 2 add the mean squared difference to the running sum that counts for a quarter. -/
theorem step2_commit (V : Valuation τ sig (Elt F)) :
    after step2 V (Proc.devRef .tc main_v89) = addf (V (Proc.devRef .tc main_v58)) (meanSq (V (Proc.devRef .tc main_v61)) (V (Proc.devRef .tc main_v79))) := by
  simp only [step2]; after_results_simp; rfl

/-- The last operations of round 2 leave the residual plus the difference of word and residual. -/
theorem step2_ste (V : Valuation τ sig (Elt F)) : after step2 V (Proc.devRef .tc main_v91) = steOf (V (Proc.devRef .tc main_v61)) (V (Proc.devRef .tc main_v79)) := by
  simp only [step2]; after_results_simp; rfl

/-- The last operations of round 2 leave the residual minus the word. -/
theorem step2_next (V : Valuation τ sig (Elt F)) :
    after step2 V (Proc.devRef .tc main_v92) = subf (V (Proc.devRef .tc main_v61)) (V (Proc.devRef .tc main_v79)) := by
  simp only [step2]; after_results_simp

/-- The distance operations of round 3 leave code book 3 in its buffer. -/
theorem dist3_code (V : Valuation τ sig (Elt F)) : after dist3b (after dist3a V) (Proc.devRef .tc main_v94) = code3 (V (Proc.devRef .tc main_arg1)) := by
  simp only [dist3a, dist3b]; after_results_simp; rfl

set_option maxHeartbeats 1000000 in
/-- The distance operations of round 3 leave the distances between the residuals and the words of code book 3. -/
theorem dist3_dist (V : Valuation τ sig (Elt F)) :
    after dist3b (after dist3a V) (Proc.devRef .tc main_v108) = distOf (V (Proc.devRef .tc main_v92)) (code3 (V (Proc.devRef .tc main_arg1))) := by
  simp only [dist3a, dist3b]; after_results_simp; rfl

/-- The argmin of round 3 leaves the positions of the nearest words. -/
theorem near3_near (V : Valuation τ sig (Elt F)) : after near3 V (Proc.devRef .tc main_v109) = nearOf (V (Proc.devRef .tc main_v108)) := by
  simp only [near3, TRef.nullary, TRef.unary, TRef.binary, TRef.ternary, TRef.quaternary, TRef.toBuf, TRef.ofBuf, cast_eq]; after_results_simp; rfl

set_option maxHeartbeats 1000000 in
/-- The gather of round 3 leaves the words at those positions. -/
theorem take3_take (V : Valuation τ sig (Elt F)) :
    after take3 V (Proc.devRef .tc main_v110) = takeOf (V (Proc.devRef .tc main_v94)) (V (Proc.devRef .tc main_v109)) := by
  simp only [take3, TRef.nullary, TRef.unary, TRef.binary, TRef.ternary, TRef.quaternary, TRef.toBuf, TRef.ofBuf, cast_eq]; after_results_simp; rfl

/-- The last operations of round 3 add the mean squared difference to the running sum that counts in full. -/
theorem step3_loss (V : Valuation τ sig (Elt F)) :
    after step3 V (Proc.devRef .tc main_v115) = addf (V (Proc.devRef .tc main_v84)) (meanSq (V (Proc.devRef .tc main_v92)) (V (Proc.devRef .tc main_v110))) := by
  simp only [step3]; after_results_simp; rfl

/-- The last operations of round 3 add the mean squared difference to the running sum that counts for a quarter. -/
theorem step3_commit (V : Valuation τ sig (Elt F)) :
    after step3 V (Proc.devRef .tc main_v120) = addf (V (Proc.devRef .tc main_v89)) (meanSq (V (Proc.devRef .tc main_v92)) (V (Proc.devRef .tc main_v110))) := by
  simp only [step3]; after_results_simp; rfl

/-- The last operations of round 3 leave the residual plus the difference of word and residual. -/
theorem step3_ste (V : Valuation τ sig (Elt F)) : after step3 V (Proc.devRef .tc main_v122) = steOf (V (Proc.devRef .tc main_v92)) (V (Proc.devRef .tc main_v110)) := by
  simp only [step3]; after_results_simp; rfl

/-- The last operations of round 3 leave the residual minus the word. -/
theorem step3_next (V : Valuation τ sig (Elt F)) :
    after step3 V (Proc.devRef .tc main_v123) = subf (V (Proc.devRef .tc main_v92)) (V (Proc.devRef .tc main_v110)) := by
  simp only [step3]; after_results_simp

/-- The last operations leave the sum of the four rounds' tokens as the first result. -/
theorem last_sum (V : Valuation τ sig (Elt F)) :
    after last V (Proc.devRef .tc main_v129) = sum4 (V (Proc.devRef .tc main_v29)) (V (Proc.devRef .tc main_v60)) (V (Proc.devRef .tc main_v91)) (V (Proc.devRef .tc main_v122)) := by
  simp only [last]; after_results_simp; rfl

/-- The last operations leave the one running sum plus a quarter of the other as the second result. -/
theorem last_loss (V : Valuation τ sig (Elt F)) :
    after last V (Proc.devRef .tc main_v131) = addf (V (Proc.devRef .tc main_v115)) (mulf (constant S_ .f32 0x3E800000#32) (V (Proc.devRef .tc main_v120))) := by
  simp only [last]; after_results_simp

/-- The contents after round 0. -/
def round0 (V : Valuation τ sig (Elt F)) : Valuation τ sig (Elt F) := after step0 (after take0 (after near0 (after dist0 V)))

/-- The buffers that round 0 writes. -/
def round0W : List (Ref sig .tc) := dist0W ++ near0W ++ take0W ++ step0W

/-- Round 0 keeps every buffer that it does not write. -/
theorem round0_keep (V : Valuation τ sig (Elt F)) {r : Ref sig .tc} (hr : r ∉ round0W) : round0 V (Proc.devRef .tc r) = V (Proc.devRef .tc r) := by
  simp only [round0W, List.mem_append, not_or] at hr
  rw [round0, step0_keep _ (by tauto), take0_keep _ (by tauto), near0_keep _ (by tauto), dist0_keep _ (by tauto)]

/-- Round 0 adds the mean squared difference to the running sum that counts in full. -/
theorem round0_loss (V : Valuation τ sig (Elt F)) :
    round0 V (Proc.devRef .tc main_v22) = addf zero (meanSq (V (Proc.devRef .tc main_arg0)) (quantOf (V (Proc.devRef .tc main_arg0)) (code0 (V (Proc.devRef .tc main_arg1))))) := by
  rw [round0, step0_loss, take0_take, near0_keep (r := main_v1) _ (by decide), near0_near, dist0_code, dist0_dist, take0_keep (r := main_arg0) _ (by decide), near0_keep (r := main_arg0) _ (by decide), dist0_keep (r := main_arg0) _ (by decide)]; rfl

/-- Round 0 adds the mean squared difference to the running sum that counts for a quarter. -/
theorem round0_commit (V : Valuation τ sig (Elt F)) :
    round0 V (Proc.devRef .tc main_v27) = addf zero (meanSq (V (Proc.devRef .tc main_arg0)) (quantOf (V (Proc.devRef .tc main_arg0)) (code0 (V (Proc.devRef .tc main_arg1))))) := by
  rw [round0, step0_commit, take0_take, near0_keep (r := main_v1) _ (by decide), near0_near, dist0_code, dist0_dist, take0_keep (r := main_arg0) _ (by decide), near0_keep (r := main_arg0) _ (by decide), dist0_keep (r := main_arg0) _ (by decide)]; rfl

/-- Round 0 leaves the residual plus the difference of word and residual. -/
theorem round0_ste (V : Valuation τ sig (Elt F)) :
    round0 V (Proc.devRef .tc main_v29) = steOf (V (Proc.devRef .tc main_arg0)) (quantOf (V (Proc.devRef .tc main_arg0)) (code0 (V (Proc.devRef .tc main_arg1)))) := by
  rw [round0, step0_ste, take0_take, near0_keep (r := main_v1) _ (by decide), near0_near, dist0_code, dist0_dist, take0_keep (r := main_arg0) _ (by decide), near0_keep (r := main_arg0) _ (by decide), dist0_keep (r := main_arg0) _ (by decide)]; rfl

/-- Round 0 leaves the residual minus the word. -/
theorem round0_next (V : Valuation τ sig (Elt F)) :
    round0 V (Proc.devRef .tc main_v30) = subf (V (Proc.devRef .tc main_arg0)) (quantOf (V (Proc.devRef .tc main_arg0)) (code0 (V (Proc.devRef .tc main_arg1)))) := by
  rw [round0, step0_next, take0_take, near0_keep (r := main_v1) _ (by decide), near0_near, dist0_code, dist0_dist, take0_keep (r := main_arg0) _ (by decide), near0_keep (r := main_arg0) _ (by decide), dist0_keep (r := main_arg0) _ (by decide)]; rfl

/-- The contents after round 1. -/
def round1 (V : Valuation τ sig (Elt F)) : Valuation τ sig (Elt F) := after step1 (after take1 (after near1 (after dist1 V)))

/-- The buffers that round 1 writes. -/
def round1W : List (Ref sig .tc) := dist1W ++ near1W ++ take1W ++ step1W

/-- Round 1 keeps every buffer that it does not write. -/
theorem round1_keep (V : Valuation τ sig (Elt F)) {r : Ref sig .tc} (hr : r ∉ round1W) : round1 V (Proc.devRef .tc r) = V (Proc.devRef .tc r) := by
  simp only [round1W, List.mem_append, not_or] at hr
  rw [round1, step1_keep _ (by tauto), take1_keep _ (by tauto), near1_keep _ (by tauto), dist1_keep _ (by tauto)]

/-- Round 1 adds the mean squared difference to the running sum that counts in full. -/
theorem round1_loss (V : Valuation τ sig (Elt F)) :
    round1 V (Proc.devRef .tc main_v53) = addf (V (Proc.devRef .tc main_v22)) (meanSq (V (Proc.devRef .tc main_v30)) (quantOf (V (Proc.devRef .tc main_v30)) (code1 (V (Proc.devRef .tc main_arg1))))) := by
  rw [round1, step1_loss, take1_take, near1_keep (r := main_v32) _ (by decide), near1_near, dist1_code, dist1_dist, take1_keep (r := main_v30) _ (by decide), near1_keep (r := main_v30) _ (by decide), dist1_keep (r := main_v30) _ (by decide), take1_keep (r := main_v22) _ (by decide), near1_keep (r := main_v22) _ (by decide), dist1_keep (r := main_v22) _ (by decide)]; rfl

/-- Round 1 adds the mean squared difference to the running sum that counts for a quarter. -/
theorem round1_commit (V : Valuation τ sig (Elt F)) :
    round1 V (Proc.devRef .tc main_v58) = addf (V (Proc.devRef .tc main_v27)) (meanSq (V (Proc.devRef .tc main_v30)) (quantOf (V (Proc.devRef .tc main_v30)) (code1 (V (Proc.devRef .tc main_arg1))))) := by
  rw [round1, step1_commit, take1_take, near1_keep (r := main_v32) _ (by decide), near1_near, dist1_code, dist1_dist, take1_keep (r := main_v30) _ (by decide), near1_keep (r := main_v30) _ (by decide), dist1_keep (r := main_v30) _ (by decide), take1_keep (r := main_v27) _ (by decide), near1_keep (r := main_v27) _ (by decide), dist1_keep (r := main_v27) _ (by decide)]; rfl

/-- Round 1 leaves the residual plus the difference of word and residual. -/
theorem round1_ste (V : Valuation τ sig (Elt F)) :
    round1 V (Proc.devRef .tc main_v60) = steOf (V (Proc.devRef .tc main_v30)) (quantOf (V (Proc.devRef .tc main_v30)) (code1 (V (Proc.devRef .tc main_arg1)))) := by
  rw [round1, step1_ste, take1_take, near1_keep (r := main_v32) _ (by decide), near1_near, dist1_code, dist1_dist, take1_keep (r := main_v30) _ (by decide), near1_keep (r := main_v30) _ (by decide), dist1_keep (r := main_v30) _ (by decide)]; rfl

/-- Round 1 leaves the residual minus the word. -/
theorem round1_next (V : Valuation τ sig (Elt F)) :
    round1 V (Proc.devRef .tc main_v61) = subf (V (Proc.devRef .tc main_v30)) (quantOf (V (Proc.devRef .tc main_v30)) (code1 (V (Proc.devRef .tc main_arg1)))) := by
  rw [round1, step1_next, take1_take, near1_keep (r := main_v32) _ (by decide), near1_near, dist1_code, dist1_dist, take1_keep (r := main_v30) _ (by decide), near1_keep (r := main_v30) _ (by decide), dist1_keep (r := main_v30) _ (by decide)]; rfl

/-- The contents after round 2. -/
def round2 (V : Valuation τ sig (Elt F)) : Valuation τ sig (Elt F) := after step2 (after take2 (after near2 (after dist2 V)))

/-- The buffers that round 2 writes. -/
def round2W : List (Ref sig .tc) := dist2W ++ near2W ++ take2W ++ step2W

/-- Round 2 keeps every buffer that it does not write. -/
theorem round2_keep (V : Valuation τ sig (Elt F)) {r : Ref sig .tc} (hr : r ∉ round2W) : round2 V (Proc.devRef .tc r) = V (Proc.devRef .tc r) := by
  simp only [round2W, List.mem_append, not_or] at hr
  rw [round2, step2_keep _ (by tauto), take2_keep _ (by tauto), near2_keep _ (by tauto), dist2_keep _ (by tauto)]

/-- Round 2 adds the mean squared difference to the running sum that counts in full. -/
theorem round2_loss (V : Valuation τ sig (Elt F)) :
    round2 V (Proc.devRef .tc main_v84) = addf (V (Proc.devRef .tc main_v53)) (meanSq (V (Proc.devRef .tc main_v61)) (quantOf (V (Proc.devRef .tc main_v61)) (code2 (V (Proc.devRef .tc main_arg1))))) := by
  rw [round2, step2_loss, take2_take, near2_keep (r := main_v63) _ (by decide), near2_near, dist2_code, dist2_dist, take2_keep (r := main_v61) _ (by decide), near2_keep (r := main_v61) _ (by decide), dist2_keep (r := main_v61) _ (by decide), take2_keep (r := main_v53) _ (by decide), near2_keep (r := main_v53) _ (by decide), dist2_keep (r := main_v53) _ (by decide)]; rfl

/-- Round 2 adds the mean squared difference to the running sum that counts for a quarter. -/
theorem round2_commit (V : Valuation τ sig (Elt F)) :
    round2 V (Proc.devRef .tc main_v89) = addf (V (Proc.devRef .tc main_v58)) (meanSq (V (Proc.devRef .tc main_v61)) (quantOf (V (Proc.devRef .tc main_v61)) (code2 (V (Proc.devRef .tc main_arg1))))) := by
  rw [round2, step2_commit, take2_take, near2_keep (r := main_v63) _ (by decide), near2_near, dist2_code, dist2_dist, take2_keep (r := main_v61) _ (by decide), near2_keep (r := main_v61) _ (by decide), dist2_keep (r := main_v61) _ (by decide), take2_keep (r := main_v58) _ (by decide), near2_keep (r := main_v58) _ (by decide), dist2_keep (r := main_v58) _ (by decide)]; rfl

/-- Round 2 leaves the residual plus the difference of word and residual. -/
theorem round2_ste (V : Valuation τ sig (Elt F)) :
    round2 V (Proc.devRef .tc main_v91) = steOf (V (Proc.devRef .tc main_v61)) (quantOf (V (Proc.devRef .tc main_v61)) (code2 (V (Proc.devRef .tc main_arg1)))) := by
  rw [round2, step2_ste, take2_take, near2_keep (r := main_v63) _ (by decide), near2_near, dist2_code, dist2_dist, take2_keep (r := main_v61) _ (by decide), near2_keep (r := main_v61) _ (by decide), dist2_keep (r := main_v61) _ (by decide)]; rfl

/-- Round 2 leaves the residual minus the word. -/
theorem round2_next (V : Valuation τ sig (Elt F)) :
    round2 V (Proc.devRef .tc main_v92) = subf (V (Proc.devRef .tc main_v61)) (quantOf (V (Proc.devRef .tc main_v61)) (code2 (V (Proc.devRef .tc main_arg1)))) := by
  rw [round2, step2_next, take2_take, near2_keep (r := main_v63) _ (by decide), near2_near, dist2_code, dist2_dist, take2_keep (r := main_v61) _ (by decide), near2_keep (r := main_v61) _ (by decide), dist2_keep (r := main_v61) _ (by decide)]; rfl

/-- The contents after round 3. -/
def round3 (V : Valuation τ sig (Elt F)) : Valuation τ sig (Elt F) := after step3 (after take3 (after near3 (after dist3b (after dist3a V))))

/-- The buffers that round 3 writes. -/
def round3W : List (Ref sig .tc) := dist3aW ++ dist3bW ++ near3W ++ take3W ++ step3W

/-- Round 3 keeps every buffer that it does not write. -/
theorem round3_keep (V : Valuation τ sig (Elt F)) {r : Ref sig .tc} (hr : r ∉ round3W) : round3 V (Proc.devRef .tc r) = V (Proc.devRef .tc r) := by
  simp only [round3W, List.mem_append, not_or] at hr
  rw [round3, step3_keep _ (by tauto), take3_keep _ (by tauto), near3_keep _ (by tauto), dist3b_keep _ (by tauto), dist3a_keep _ (by tauto)]

/-- Round 3 adds the mean squared difference to the running sum that counts in full. -/
theorem round3_loss (V : Valuation τ sig (Elt F)) :
    round3 V (Proc.devRef .tc main_v115) = addf (V (Proc.devRef .tc main_v84)) (meanSq (V (Proc.devRef .tc main_v92)) (quantOf (V (Proc.devRef .tc main_v92)) (code3 (V (Proc.devRef .tc main_arg1))))) := by
  rw [round3, step3_loss, take3_take, near3_keep (r := main_v94) _ (by decide), near3_near, dist3_code, dist3_dist, take3_keep (r := main_v92) _ (by decide), near3_keep (r := main_v92) _ (by decide), dist3b_keep (r := main_v92) _ (by decide), dist3a_keep (r := main_v92) _ (by decide), take3_keep (r := main_v84) _ (by decide), near3_keep (r := main_v84) _ (by decide), dist3b_keep (r := main_v84) _ (by decide), dist3a_keep (r := main_v84) _ (by decide)]; rfl

/-- Round 3 adds the mean squared difference to the running sum that counts for a quarter. -/
theorem round3_commit (V : Valuation τ sig (Elt F)) :
    round3 V (Proc.devRef .tc main_v120) = addf (V (Proc.devRef .tc main_v89)) (meanSq (V (Proc.devRef .tc main_v92)) (quantOf (V (Proc.devRef .tc main_v92)) (code3 (V (Proc.devRef .tc main_arg1))))) := by
  rw [round3, step3_commit, take3_take, near3_keep (r := main_v94) _ (by decide), near3_near, dist3_code, dist3_dist, take3_keep (r := main_v92) _ (by decide), near3_keep (r := main_v92) _ (by decide), dist3b_keep (r := main_v92) _ (by decide), dist3a_keep (r := main_v92) _ (by decide), take3_keep (r := main_v89) _ (by decide), near3_keep (r := main_v89) _ (by decide), dist3b_keep (r := main_v89) _ (by decide), dist3a_keep (r := main_v89) _ (by decide)]; rfl

/-- Round 3 leaves the residual plus the difference of word and residual. -/
theorem round3_ste (V : Valuation τ sig (Elt F)) :
    round3 V (Proc.devRef .tc main_v122) = steOf (V (Proc.devRef .tc main_v92)) (quantOf (V (Proc.devRef .tc main_v92)) (code3 (V (Proc.devRef .tc main_arg1)))) := by
  rw [round3, step3_ste, take3_take, near3_keep (r := main_v94) _ (by decide), near3_near, dist3_code, dist3_dist, take3_keep (r := main_v92) _ (by decide), near3_keep (r := main_v92) _ (by decide), dist3b_keep (r := main_v92) _ (by decide), dist3a_keep (r := main_v92) _ (by decide)]; rfl

/-- Round 3 leaves the residual minus the word. -/
theorem round3_next (V : Valuation τ sig (Elt F)) :
    round3 V (Proc.devRef .tc main_v123) = subf (V (Proc.devRef .tc main_v92)) (quantOf (V (Proc.devRef .tc main_v92)) (code3 (V (Proc.devRef .tc main_arg1)))) := by
  rw [round3, step3_next, take3_take, near3_keep (r := main_v94) _ (by decide), near3_near, dist3_code, dist3_dist, take3_keep (r := main_v92) _ (by decide), near3_keep (r := main_v92) _ (by decide), dist3b_keep (r := main_v92) _ (by decide), dist3a_keep (r := main_v92) _ (by decide)]; rfl

/-- Running two lists of operations in a row is running the one, then the other. -/
theorem after_two (l₁ l₂ : List (HloOp τ sig (Elt F))) (V : Valuation τ sig (Elt F)) : after (l₁ ++ l₂) V = after l₂ (after l₁ V) := by
  induction l₁ generalizing V with
  | nil => rfl
  | cons op l ih => exact ih _

/-- All operations of the reference are four rounds, then the last operations. -/
theorem after_ops (V : Valuation τ sig (Elt F)) : after ops V = after last (round3 (round2 (round1 (round0 V)))) := by
  simp only [ops, window0, window1, window2, after_two, round0, round1, round2, round3]

/-- The residual before each round. -/
def resid1 (x : FVec F S65536x32 .f32) (cb : FVec F S4x1024x32 .f32) : FVec F S65536x32 .f32 := subf x (quantOf x (code0 cb))
@[inherit_doc resid1]
def resid2 (x : FVec F S65536x32 .f32) (cb : FVec F S4x1024x32 .f32) : FVec F S65536x32 .f32 := subf (resid1 x cb) (quantOf (resid1 x cb) (code1 cb))
@[inherit_doc resid1]
def resid3 (x : FVec F S65536x32 .f32) (cb : FVec F S4x1024x32 .f32) : FVec F S65536x32 .f32 := subf (resid2 x cb) (quantOf (resid2 x cb) (code2 cb))

/-- The first result: the sum of the four rounds' straight-through values. -/
def sumOf (x : FVec F S65536x32 .f32) (cb : FVec F S4x1024x32 .f32) : FVec F S65536x32 .f32 :=
  sum4 (steOf x (quantOf x (code0 cb))) (steOf (resid1 x cb) (quantOf (resid1 x cb) (code1 cb)))
    (steOf (resid2 x cb) (quantOf (resid2 x cb) (code2 cb))) (steOf (resid3 x cb) (quantOf (resid3 x cb) (code3 cb)))

/-- The four rounds' mean squares added up. -/
def meansOf (x : FVec F S65536x32 .f32) (cb : FVec F S4x1024x32 .f32) : FVec F S_ .f32 :=
  addf (addf (addf (addf zero (meanSq x (quantOf x (code0 cb)))) (meanSq (resid1 x cb) (quantOf (resid1 x cb) (code1 cb))))
    (meanSq (resid2 x cb) (quantOf (resid2 x cb) (code2 cb)))) (meanSq (resid3 x cb) (quantOf (resid3 x cb) (code3 cb)))

/-- The second result: the means, and a quarter of them again. -/
def lossOf (x : FVec F S65536x32 .f32) (cb : FVec F S4x1024x32 .f32) : FVec F S_ .f32 :=
  addf (meansOf x cb) (mulf (constant S_ .f32 0x3E800000#32) (meansOf x cb))

/-- The reference's first result, as a function of its arguments. -/
theorem after_ops_sum (V : Valuation τ sig (Elt F)) :
    after ops V (Proc.devRef .tc main_v129) = sumOf (V (Proc.devRef .tc main_arg0)) (V (Proc.devRef .tc main_arg1)) := by
  rw [after_ops, last_sum, round3_keep (r := main_v29) _ (by decide), round2_keep (r := main_v29) _ (by decide), round1_keep (r := main_v29) _ (by decide), round3_keep (r := main_v60) _ (by decide), round2_keep (r := main_v60) _ (by decide), round3_keep (r := main_v91) _ (by decide),
    round3_ste, round2_next, round1_next, round0_next, round2_ste, round1_next, round0_next, round1_ste, round0_next, round0_ste,
    round2_keep (r := main_arg1) _ (by decide), round1_keep (r := main_arg1) _ (by decide), round0_keep (r := main_arg1) _ (by decide)]
  rfl

/-- The reference's second result, as a function of its arguments. -/
theorem after_ops_loss (V : Valuation τ sig (Elt F)) :
    after ops V (Proc.devRef .tc main_v131) = lossOf (V (Proc.devRef .tc main_arg0)) (V (Proc.devRef .tc main_arg1)) := by
  rw [after_ops, last_loss, round3_loss, round3_commit, round2_loss, round2_commit, round1_loss, round1_commit, round0_loss, round0_commit,
    round2_next, round1_next, round0_next, round2_keep (r := main_arg1) _ (by decide), round1_keep (r := main_arg1) _ (by decide), round0_keep (r := main_arg1) _ (by decide)]
  rfl

/-- The reference keeps every buffer that no round and no last operation writes. -/
theorem after_ops_arg (V : Valuation τ sig (Elt F)) {r : Ref sig .tc} (hr : r ∉ round0W ++ round1W ++ round2W ++ round3W ++ lastW) :
    after ops V (Proc.devRef .tc r) = V (Proc.devRef .tc r) := by
  simp only [List.mem_append, not_or] at hr
  rw [after_ops, last_keep _ hr.2, round3_keep _ hr.1.2, round2_keep _ hr.1.1.2, round1_keep _ hr.1.1.1.2, round0_keep _ hr.1.1.1.1]

/-- The reference's run: its two results are `sumOf` and `lossOf` of its arguments, which it leaves unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v129) = sumOf (m ((c.tc : Thread nD τ).loc main_arg0)) (m ((c.tc : Thread nD τ).loc main_arg1))
      ∧ r.2.mem ((c.tc : Thread nD τ).loc main_v131) = lossOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v129).trans (after_ops_sum _), (h c main_v131).trans (after_ops_loss _),
      (h c main_arg0).trans (after_ops_arg _ (by decide)), (h c main_arg1).trans (after_ops_arg _ (by decide))⟩)
    (run_ops m ρ)

end Cert.ReferenceIdeal.Rounds

end
-- ==== Proof.RefDist.lean ====
/- The reference's distances at arrays of reals. -/
module

public import proofs.«01_k».proof.Proof.RefRun
public import proofs.«01_k».proof.Proof.Lift

@[expose] public section

set_option maxRecDepth 16384

noncomputable section

namespace Cert.ReferenceIdeal.Rounds

open Idealize.ShloMosaic Cert.ReferenceIdeal Cert.ReferenceIdeal.Facts₀ Cert.ReferenceIdeal.Facts Quantizer
open scoped BigOperators

/-- The constant zero is zero. -/
theorem zero_apply (j : S_.Idx) : (zero : FVec Ideal S_ .f32) j = 0 := Ideal.ofBits_zero_f32

/-- The word `2.0`. -/
theorem ofBits_two : Ideal.ofBits .f32 0x40000000#32 = ((2 : ℝ) : EReal) := by
  simp [Ideal.ofBits, Ideal.ieee, -EReal.coe_mul]; norm_num

/-- The word `2097152.0`, the number of coordinates. -/
theorem ofBits_count : Ideal.ofBits .f32 0x4A000000#32 = ((2097152 : ℝ) : EReal) := by
  simp [Ideal.ofBits, Ideal.ieee, -EReal.coe_mul]; norm_num

/-- The word `0.25`. -/
theorem ofBits_quarter : Ideal.ofBits .f32 0x3E800000#32 = (((1 : ℝ) / 4 : ℝ) : EReal) := by
  simp [Ideal.ofBits, Ideal.ieee, -EReal.coe_mul]; norm_num

/-- The distances are the squared distances, multiplied out. -/
theorem distOf_lift (R : Fin 65536 → Token) (W : Book) : distOf (lift R) (lift W) = lift fun t => dist (R t) W := by
  funext j
  idx_vars j
  pointwise [distOf, zero]
  show (∑ x, ((R j0 x : ℝ) : EReal) * ((R j0 x : ℝ) : EReal)) - (∑ x, Ideal.ofBits .f32 0x40000000#32 * ((R j0 x : ℝ) : EReal) * ((W j1 x : ℝ) : EReal))
    + (∑ x, ((W j1 x : ℝ) : EReal) * ((W j1 x : ℝ) : EReal)) = ((dist (R j0) W j1 : ℝ) : EReal)
  simp only [ofBits_two, ← EReal.coe_mul, ← coe_sum, ← EReal.coe_sub, ← EReal.coe_add]
  rfl

/-- Code book 0. -/
theorem code0_lift (C : Fin 4 → Book) : code0 (lift3 C) = lift (C 0) := by
  funext j
  idx_vars j
  pointwise [code0]
  rfl
/-- Code book 1. -/
theorem code1_lift (C : Fin 4 → Book) : code1 (lift3 C) = lift (C 1) := by
  funext j
  idx_vars j
  pointwise [code1]
  rfl
/-- Code book 2. -/
theorem code2_lift (C : Fin 4 → Book) : code2 (lift3 C) = lift (C 2) := by
  funext j
  idx_vars j
  pointwise [code2]
  rfl
/-- Code book 3. -/
theorem code3_lift (C : Fin 4 → Book) : code3 (lift3 C) = lift (C 3) := by
  funext j
  idx_vars j
  pointwise [code3]
  rfl

/-- The difference of two arrays. -/
theorem subf_lift {n k : ℕ} (A B : Fin n → Fin k → ℝ) : subf (lift A) (lift B) = lift fun t d => A t d - B t d := by
  funext j
  exact (EReal.coe_sub _ _).symm

/-- The straight-through value `r + (q - r)` is `q`. -/
theorem steOf_lift (A B : Fin 65536 → Token) : steOf (lift A) (lift B) = lift B := by
  funext j
  show ((A (j 0) (j 1) : ℝ) : EReal) + (((B (j 0) (j 1) : ℝ) : EReal) - ((A (j 0) (j 1) : ℝ) : EReal)) = ((B (j 0) (j 1) : ℝ) : EReal)
  rw [← EReal.coe_sub, ← EReal.coe_add]
  congr 1
  ring

/-- The stack of four arrays summed is their sum. -/
theorem sum4_lift (A B C D : Fin 65536 → Token) : sum4 (lift A) (lift B) (lift C) (lift D) = lift fun t d => A t d + B t d + C t d + D t d := by
  funext j
  idx_vars j
  pointwise [sum4]
  rw [zero_apply, zero_add, Fin.sum_univ_four]
  show ((A j0 j1 : ℝ) : EReal) + ((B j0 j1 : ℝ) : EReal) + ((C j0 j1 : ℝ) : EReal) + ((D j0 j1 : ℝ) : EReal) = _
  simp only [← EReal.coe_add]
  rfl

/-- The mean square of a difference. -/
theorem meanSq_lift (A B : Fin 65536 → Token) : meanSq (lift A) (lift B) = fun _ => (((∑ t, sq fun d => A t d - B t d) / 2097152 : ℝ) : EReal) := by
  funext j
  pointwise [meanSq, zero]
  rw [ofBits_count]
  show Ideal.div (∑ t, ∑ d, (((A t d : ℝ) : EReal) - ((B t d : ℝ) : EReal)) * (((A t d : ℝ) : EReal) - ((B t d : ℝ) : EReal))) _ = _
  simp only [← EReal.coe_sub, ← EReal.coe_mul, ← coe_sum]
  unfold Ideal.div
  rw [if_neg (by norm_num), ← EReal.coe_inv, ← EReal.coe_mul, div_eq_mul_inv]
  rfl

end Cert.ReferenceIdeal.Rounds

end
-- ==== Proof.RefNear.lean ====
/- The reference's arg-min at an array of reals: the position of the first smallest entry of each row. -/
module

public import proofs.«01_k».proof.Proof.RefRun
public import proofs.«01_k».proof.Proof.Lift

@[expose] public section

set_option maxRecDepth 16384

noncomputable section

namespace Cert.ReferenceIdeal.Rounds

open Idealize.ShloMosaic Cert.ReferenceIdeal Cert.ReferenceIdeal.Facts₀ Cert.ReferenceIdeal.Facts Quantizer
open scoped BigOperators

/-- A left fold whose step keeps `p₀` against every loser, prefers it to every loser, and makes losers of losers, ends at `p₀`
    once `p₀` is among what it meets. -/
theorem foldl_winner {α : Type} (f : α → α → α) (Lose : α → Prop) (p₀ : α) (h1 : ∀ a, Lose a → f a p₀ = p₀)
    (h2 : ∀ a, Lose a → f p₀ a = p₀) (h0 : f p₀ p₀ = p₀) (h3 : ∀ a b, Lose a → Lose b → Lose (f a b)) :
    ∀ (l : List α) (acc : α), (∀ p ∈ l, p = p₀ ∨ Lose p) → (acc = p₀ ∨ (Lose acc ∧ p₀ ∈ l)) → l.foldl f acc = p₀
  | [], acc, _, hacc => by simpa using hacc
  | p :: l, acc, hl, hacc => by
    rw [List.foldl_cons]
    refine foldl_winner f Lose p₀ h1 h2 h0 h3 l _ (fun q hq => hl q (List.mem_cons_of_mem _ hq)) ?_
    by_cases hp0 : p = p₀
    · subst hp0
      rcases hacc with rfl | ⟨ha, -⟩
      · exact .inl h0
      · exact .inl (h1 _ ha)
    · have hp : Lose p := (hl p List.mem_cons_self).resolve_left hp0
      rcases hacc with rfl | ⟨ha, hm⟩
      · exact .inl (h2 _ hp)
      · exact .inr ⟨h3 _ _ ha hp, (List.mem_cons.mp hm).resolve_left fun h => hp0 h.symm⟩

/-- What a reduction's fold at `j` meets: the pairs of the indices that reduce to `j`. -/
theorem mem_fiber {α β : Type} {s t : Shape} {axes : List (Fin s.rank)} (x : s.Idx → α) (y : s.Idx → β) (h : s.ReducesTo axes t)
    (j : t.Idx) (p : α × β) : p ∈ Host.argReduceFiber x y h j ↔ ∃ i : s.Idx, h.drop i = j ∧ (x i, y i) = p := by
  simp only [Host.argReduceFiber, List.mem_map, List.mem_filter, decide_eq_true_eq]
  constructor
  · rintro ⟨n, ⟨-, hn⟩, hp⟩
    exact ⟨_, hn, hp⟩
  · rintro ⟨i, hi, hp⟩
    exact ⟨s.rowMajor i, ⟨List.mem_finRange _, by rw [Equiv.symm_apply_apply]; exact hi⟩, by rw [Equiv.symm_apply_apply]; exact hp⟩

/-- The reducer at two pairs: the smaller value with its index, the smaller index where the values are equal. -/
theorem reducer_eq (a b : EReal × BitVec 32) :
    reducer_argmin_f32_i32 (F := Ideal) a b = if a.1 < b.1 ∨ (a.1 = b.1 ∧ a.2.slt b.2) then a else b := by
  obtain ⟨a1, a2⟩ := a
  obtain ⟨b1, b2⟩ := b
  simp only [reducer_argmin_f32_i32, Ideal.cmpf_def, Ideal.cmp, IntOp.cmpi, IntOp.ori, IntOp.andi, Scalar.select]
  rcases lt_trichotomy a1 b1 with h | h | h
  · simp [h, h.ne]
  · subst h
    by_cases hs : a2.slt b2 <;> simp [hs]
  · have h' : ¬ a1 < b1 := not_lt.mpr h.le
    have h'' : a1 ≠ b1 := h.ne'
    simp [h', h'']

/-- Small numbers compare as signed words as they do. -/
theorem slt_ofNat {a b : ℕ} (ha : a < 1024) (hb : b < 1024) : (BitVec.ofNat 32 a).slt (BitVec.ofNat 32 b) = decide (a < b) := by
  have e : ∀ c : ℕ, c < 1024 → (BitVec.ofNat 32 c).toInt = (c : ℤ) := fun c hc => by
    rw [BitVec.toInt_eq_toNat_of_lt (by rw [BitVec.toNat_ofNat]; omega), BitVec.toNat_ofNat, Nat.mod_eq_of_lt (by omega)]
  rw [BitVec.slt_eq_decide, decide_eq_decide, e a ha, e b hb, Nat.cast_lt]

/-- The pair of position `k`. -/
def pair (f : Fin 1024 → ℝ) (k : Fin 1024) : EReal × BitVec 32 := (((f k : ℝ) : EReal), BitVec.ofNat 32 k.val)

/-- The second half of the pair of position k is k as a word. -/
theorem pair_snd (f : Fin 1024 → ℝ) (k : Fin 1024) : (pair f k).2 = BitVec.ofNat 32 k.val := rfl

/-- What loses against position `k`: a greater value, or the same value at a later position. -/
def Loses (f : Fin 1024 → ℝ) (k : Fin 1024) (p : EReal × BitVec 32) : Prop :=
  ((f k : ℝ) : EReal) < p.1 ∨ (((f k : ℝ) : EReal) = p.1 ∧ (BitVec.ofNat 32 k.val).slt p.2 = true)

/-- The signed order on words is asymmetric. -/
theorem slt_asymm {x y : BitVec 32} (h : x.slt y = true) : ¬ y.slt x = true := by
  rw [BitVec.slt_eq_decide, decide_eq_true_eq] at *
  omega

/-- The fold of the reducer over the pairs of `f` in any order, from `⊤`, ends at the first smallest position. -/
theorem foldl_reducer (f : Fin 1024 → ℝ) (l : List (EReal × BitVec 32)) (hl : ∀ p ∈ l, ∃ k, p = pair f k)
    (hm : pair f (first f) ∈ l) :
    l.foldl (reducer_argmin_f32_i32 (F := Ideal)) ((⊤ : EReal), 0#32) = pair f (first f) := by
  refine foldl_winner _ (Loses f (first f)) _ ?_ ?_ ?_ ?_ l _ ?_ (.inr ⟨.inl (EReal.coe_lt_top _), hm⟩)
  · rintro ⟨a, i⟩ h
    rw [reducer_eq, if_neg]
    rintro (h' | ⟨h', hs⟩)
    · rcases h with h | ⟨h, -⟩
      · exact absurd h (not_lt.mpr h'.le)
      · exact absurd h h'.ne'
    · rcases h with h | ⟨-, h⟩
      · exact absurd h' h.ne'
      · exact slt_asymm h hs
  · rintro ⟨a, i⟩ h
    rw [reducer_eq, if_pos]
    exact h
  · rw [reducer_eq]; simp
  · intro a b ha hb
    rw [reducer_eq]
    split
    · exact ha
    · exact hb
  · intro p hp
    obtain ⟨k, rfl⟩ := hl p hp
    have hs := first_spec f k
    rcases eq_or_ne k (first f) with rfl | hk
    · exact .inl rfl
    · right
      rcases lt_or_eq_of_le hs.1 with h | h
      · exact .inl (EReal.coe_lt_coe_iff.mpr h)
      · refine .inr ⟨congrArg _ h, ?_⟩
        show (BitVec.ofNat 32 _).slt (BitVec.ofNat 32 _) = true
        rw [slt_ofNat (first f).isLt k.isLt, decide_eq_true_eq]
        rcases lt_trichotomy k (first f) with h' | h' | h'
        · exact absurd h (hs.2 h').ne
        · exact absurd h' hk
        · exact h'

/-- The constant infinity is the top of the extended reals. -/
theorem top_apply (j : S_.Idx) : (constant S_ .f32 0x7F800000#32 : FVec Ideal S_ .f32) j = (⊤ : EReal) := by
  show Ideal.ofBits .f32 0x7F800000#32 = ⊤
  simp [Ideal.ofBits, Ideal.ieee]

/-- The reduction of a matrix's rows by the reducer, from `⊤`, at a row of reals. -/
theorem argReduce_row {n : ℕ} {u : Shape} (h : Shape.ReducesTo ⟨2, ![n, 1024]⟩ [1] ⟨1, ![n]⟩) (hu : 0 < u.numel) (D : Fin n → Fin 1024 → ℝ)
    (y : IVec ⟨2, ![n, 1024]⟩ 32) (hy : ∀ i, y i = BitVec.ofNat 32 (i 1).val) (ix : FVec Ideal u .f32) (hix : ∀ i, ix i = (⊤ : EReal))
    (iy : IVec u 32) (hiy : ∀ i, iy i = 0#32) (j : (⟨1, ![n]⟩ : Shape).Idx) :
    Host.argReduce (F := Ideal) (φ := .f32) reducer_argmin_f32_i32 (lift D) y ix iy h hu j = pair (D (j 0)) (first (D (j 0))) := by
  have hd : ∀ i : (⟨2, ![n, 1024]⟩ : Shape).Idx, h.drop i = j ↔ i 0 = j 0 := fun i => by
    have hv : (h.drop i 0 : Nat) = i 0 := Shape.ReducesTo.drop_apply_val h i 0
    constructor
    · intro e; rw [e] at hv; exact Fin.ext hv.symm
    · intro e; funext a; match a with | ⟨0, _⟩ => exact Fin.ext (hv.trans (congrArg Fin.val e))
  rw [Ideal.argReduce_eq_reduce2, Host.reduce2_eq_foldl_fiber, hix, hiy]
  refine foldl_reducer (D (j 0)) _ ?_ ?_
  · intro p hp
    obtain ⟨i, hi, rfl⟩ := (mem_fiber _ _ _ _ _).mp hp
    have e : i 0 = j 0 := (hd i).mp hi
    refine ⟨i 1, ?_⟩
    rw [hy, ← e]
    rfl
  · exact (mem_fiber _ _ _ _ _).mpr ⟨ix2 (j 0) (first (D (j 0))), (hd _).mpr rfl, by rw [hy]; rfl⟩

/-- The second components of a family of pairs, at one of them that is known. -/
theorem snd_family {ι α β : Type} (g : ι → α × β) (f : ι → β) (hf : f = fun j => (g j).2) (j : ι) (p : α × β) (h : g j = p) : f j = p.2 := by
  rw [hf, ← h]

/-- The arg-min of each row of reals is its first smallest position. -/
theorem nearOf_lift (D : Fin 65536 → Fin 1024 → ℝ) :
    nearOf (F := Ideal) (lift D) = fun j => BitVec.ofNat 32 (first (D (j 0))).val :=
  funext fun j => (snd_family (Host.argReduce (F := Ideal) (φ := .f32) reducer_argmin_f32_i32 (lift D) (iotaInDim S65536x1024 32 1)
      (constant S_ .f32 0x7F800000#32) (constantI S_ 32 0#32) reducesTo_S65536x1024_S65536_d1 h_S_) (nearOf (lift D)) rfl j _
    (argReduce_row reducesTo_S65536x1024_S65536_d1 h_S_ D (iotaInDim S65536x1024 32 1) (fun _ => rfl)
      (constant S_ .f32 0x7F800000#32) top_apply (constantI S_ 32 0#32) (fun _ => rfl) j)).trans (pair_snd _ _)

end Cert.ReferenceIdeal.Rounds

end
-- ==== Proof.RefTake.lean ====
/- The reference's look-up at an array of reals and indices inside the code book: the code words at the indices. -/
module

public import proofs.«01_k».proof.Proof.RefRun
public import proofs.«01_k».proof.Proof.Lift

@[expose] public section

set_option maxRecDepth 16384

noncomputable section

namespace Cert.ReferenceIdeal.Rounds

open Idealize.ShloMosaic Cert.ReferenceIdeal Cert.ReferenceIdeal.Facts₀ Cert.ReferenceIdeal.Facts Quantizer
open scoped BigOperators

/-- A look-up of rows: a gather over an `[N, m]` table whose start indices are a column, at row `p`, reads the table's row at the
    index there, clamped into the table. -/
theorem gather_rows {α : Type} {N n m w : ℕ} (d : GatherDims ⟨2, ![N, m]⟩ ⟨2, ![n, 1]⟩ ⟨2, ![n, m]⟩)
    (hoff : d.offsetDims = [1]) (hcoll : d.collapsedSliceDims = [0]) (hob : d.operandBatchingDims = [])
    (hsim : d.startIndexMap = [0]) (hivd : d.indexVectorDim = 1)
    (x : (⟨2, ![N, m]⟩ : Shape).Idx → α) (idx : IVec ⟨2, ![n, 1]⟩ w) (p : Fin n) (c : Fin m) (k : Fin N)
    (hk : min (idx (ix2 p 0)).toInt.toNat (N - 1) = k.val) :
    Host.gather d x idx (ix2 p c) = x (ix2 k c) := by
  unfold Host.gather
  congr 1
  have hb : ∀ a : Fin 2, a ∉ d.operandBatchingDims := fun a => by rw [hob]; exact List.not_mem_nil
  have hm0 : (0 : Fin 2) ∈ d.startIndexMap := by rw [hsim]; exact List.mem_singleton.mpr rfl
  have hm1 : (1 : Fin 2) ∉ d.startIndexMap := by rw [hsim]; simp
  have hsl : d.sliceSizes 0 = 1 := d.slice_collapsed 0 (by rw [hcoll]; exact List.mem_singleton.mpr rfl)
  have hk0 : (0 : Fin 2) ∉ d.sKept := by rw [GatherDims.mem_sKept, hcoll]; simp
  have hk1 : (1 : Fin 2) ∈ d.sKept := by rw [GatherDims.mem_sKept, hcoll, hob]; simp
  funext a
  match a with
  | ⟨0, _⟩ =>
    apply Fin.ext
    show d.start _ idx 0 + d.batchCoord _ 0 + d.offCoord _ 0 = k.val
    rw [d.batchCoord_eq_zero _ _ (hb 0), d.offCoord_eq_zero _ _ hk0, GatherDims.start, dif_pos hm0]
    show min (idx _).toInt.toNat _ = _
    rw [← hk]
    show min (idx _).toInt.toNat (N - d.sliceSizes 0) = _
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 2, X ∈ d.batchDims → ((ix2 p c : (⟨2, ![n, m]⟩ : Shape).Idx) X).val = p.val := fun X hX => by
        have hX' : X ∉ d.offsetDims := by simpa [GatherDims.batchDims, Shape.kept] using hX
        rw [hoff] at hX'
        match X, hX' with
        | ⟨0, _⟩, _ => rfl
        | ⟨1, _⟩, h => exact absurd (List.mem_singleton.mpr rfl) h
      exact e _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    apply Fin.ext
    show d.start _ idx 1 + d.batchCoord _ 1 + d.offCoord _ 1 = c.val
    rw [d.batchCoord_eq_zero _ _ (hb 1), GatherDims.start, dif_neg hm1, GatherDims.offCoord, dif_pos hk1, Nat.add_zero, Nat.zero_add]
    have e : ∀ X : Fin 2, X ∈ d.offsetDims → ((ix2 p c : (⟨2, ![n, m]⟩ : Shape).Idx) X).val = c.val := fun X hX => by
      rw [hoff] at hX
      obtain rfl := List.mem_singleton.mp hX
      rfl
    exact e _ (List.getElem_mem _)

/-- A position of the code book as a signed word. -/
theorem toInt_ofNat {a : ℕ} (ha : a < 1024) : (BitVec.ofNat 32 a).toInt = (a : ℤ) := by
  rw [BitVec.toInt_eq_toNat_of_lt (by rw [BitVec.toNat_ofNat]; omega), BitVec.toNat_ofNat, Nat.mod_eq_of_lt (by omega)]

/-- Indices inside the code book are counted from the start already. -/
theorem wrapOf_apply (κ : Fin 65536 → Fin 1024) (j : S65536x1.Idx) :
    wrapOf (fun j => BitVec.ofNat 32 (κ (j 0)).val) j = BitVec.ofNat 32 (κ (j 0)).val := by
  idx_vars j
  pointwise [wrapOf]
  have h : IntOp.cmpi CmpIPredicate.slt (BitVec.ofNat 32 (κ j0).val) 0#32 = 0#1 := by
    have e : (BitVec.ofNat 32 (κ j0).val).slt 0#32 = false := by
      rw [BitVec.slt_eq_decide, decide_eq_false_iff_not, toInt_ofNat (κ j0).isLt]; simp
    show BitVec.ofBool _ = _
    rw [e]; rfl
  rw [h]
  rfl

/-- A fold of conjunctions of ones is one. -/
theorem fold_andi_one {ι : Type} (S : Finset ι) (f : ι → BitVec 1) (hf : ∀ i, f i = 1#1) : S.fold IntOp.andi 1#1 f = 1#1 := by
  induction S using Finset.cons_induction with
  | empty => rfl
  | cons a S ha ih => rw [Finset.fold_cons, ih, hf]; rfl

/-- Indices inside the code book are found to be inside it. -/
theorem insideOf_apply (k : IVec S65536x1 32) (hk : ∀ j, ∃ n < 1024, k j = BitVec.ofNat 32 n) (j : S65536.Idx) : insideOf k j = 1#1 := by
  unfold insideOf
  rw [Host.reduce_eq_fold]
  refine fold_andi_one _ _ fun i => ?_
  obtain ⟨n, hn, e⟩ := hk i
  show IntOp.andi (BitVec.ofBool ((0#32).sle (k i))) (BitVec.ofBool ((k i).sle 1023#32)) = 1#1
  have e1 : (0#32).sle (k i) = true := by
    rw [e, BitVec.sle_eq_decide, decide_eq_true_eq, toInt_ofNat hn]; simp
  have e2 : (k i).sle 1023#32 = true := by
    rw [e, BitVec.sle_eq_decide, decide_eq_true_eq, toInt_ofNat hn];
    rw [show (1023#32).toInt = 1023 by decide]; omega
  rw [e1, e2]; rfl

/-- The look-up at positions of the code book is the code words there. -/
theorem takeOf_lift (W : Book) (κ : Fin 65536 → Fin 1024) :
    takeOf (F := Ideal) (lift W) (fun j => BitVec.ofNat 32 (κ (j 0)).val) = lift fun t => W (κ t) := by
  funext j
  idx_vars j
  pointwise [takeOf]
  rw [insideOf_apply _ fun j => ⟨_, (κ (j 0)).isLt, wrapOf_apply κ j⟩]
  refine (if_pos rfl : Scalar.select _ _ _ = _).trans ?_
  rw [gather_rows _ rfl rfl rfl rfl rfl (lift W) _ j0 j1 (κ j0)]
  · rfl
  · have hw : wrapOf (fun j => BitVec.ofNat 32 (κ (j 0)).val) (ix2 j0 0) = BitVec.ofNat 32 (κ j0).val := wrapOf_apply κ (ix2 j0 0)
    rw [hw, toInt_ofNat (κ j0).isLt]
    show min (κ j0).val 1023 = (κ j0).val
    have := (κ j0).isLt
    omega

end Cert.ReferenceIdeal.Rounds

end
-- ==== Proof.RefValue.lean ====
/- The reference at arrays of reals: its two results. -/
module

public import proofs.«01_k».proof.Proof.RefDist
public import proofs.«01_k».proof.Proof.RefNear
public import proofs.«01_k».proof.Proof.RefTake

@[expose] public section

set_option maxRecDepth 16384

noncomputable section

namespace Cert.ReferenceIdeal.Rounds

open Idealize.ShloMosaic Cert.ReferenceIdeal Quantizer
open scoped BigOperators

/-- One round's words. -/
theorem quantOf_lift (R : Fin 65536 → Token) (W : Book) : quantOf (lift R) (lift W) = lift fun t => W (near (R t) W) := by
  unfold quantOf
  rw [distOf_lift, nearOf_lift]
  exact takeOf_lift W fun t => near (R t) W

/-- For real arrays, what the reference has left after one round is the real residual. -/
theorem resid1_lift (X : Fin 65536 → Token) (C : Fin 4 → Book) : resid1 (lift X) (lift3 C) = lift fun t => resid (X t) C 1 := by
  unfold resid1
  rw [code0_lift, quantOf_lift, subf_lift]
  rfl

/-- For real arrays, what the reference has left after two rounds is the real residual. -/
theorem resid2_lift (X : Fin 65536 → Token) (C : Fin 4 → Book) : resid2 (lift X) (lift3 C) = lift fun t => resid (X t) C 2 := by
  unfold resid2
  rw [resid1_lift, code1_lift, quantOf_lift, subf_lift]
  rfl

/-- For real arrays, what the reference has left after three rounds is the real residual. -/
theorem resid3_lift (X : Fin 65536 → Token) (C : Fin 4 → Book) : resid3 (lift X) (lift3 C) = lift fun t => resid (X t) C 3 := by
  unfold resid3
  rw [resid2_lift, code2_lift, quantOf_lift, subf_lift]
  rfl

/-- The first result: every token quantised. -/
theorem sumOf_lift (X : Fin 65536 → Token) (C : Fin 4 → Book) : sumOf (lift X) (lift3 C) = lift fun t => quantised (X t) C := by
  unfold sumOf
  rw [resid1_lift, resid2_lift, resid3_lift, code0_lift, code1_lift, code2_lift, code3_lift]
  simp only [quantOf_lift, steOf_lift, sum4_lift]
  rfl

/-- The mean squares of what the four rounds leave, added up. -/
theorem meansOf_lift (X : Fin 65536 → Token) (C : Fin 4 → Book) :
    meansOf (lift X) (lift3 C) = fun _ => (((∑ t, excess (X t) C) / 2097152 : ℝ) : EReal) := by
  unfold meansOf
  rw [resid1_lift, resid2_lift, resid3_lift, code0_lift, code1_lift, code2_lift, code3_lift]
  simp only [quantOf_lift, meanSq_lift]
  funext j
  show (zero : FVec Ideal S_ .f32) j + (((∑ t, sq (resid (X t) C 1)) / 2097152 : ℝ) : EReal) + (((∑ t, sq (resid (X t) C 2)) / 2097152 : ℝ) : EReal)
    + (((∑ t, sq (resid (X t) C 3)) / 2097152 : ℝ) : EReal) + (((∑ t, sq (resid (X t) C 4)) / 2097152 : ℝ) : EReal) = _
  rw [zero_apply, zero_add]
  simp only [← EReal.coe_add, ← add_div, ← Finset.sum_add_distrib]
  rfl

/-- The second result: the loss. -/
theorem lossOf_lift (X : Fin 65536 → Token) (C : Fin 4 → Book) : lossOf (lift X) (lift3 C) = fun _ => ((loss X C : ℝ) : EReal) := by
  unfold lossOf
  rw [meansOf_lift]
  funext j
  show ((_ : ℝ) : EReal) + Ideal.ofBits .f32 0x3E800000#32 * ((_ : ℝ) : EReal) = _
  rw [ofBits_quarter, ← EReal.coe_mul, ← EReal.coe_add]
  congr 1
  unfold loss
  ring

end Cert.ReferenceIdeal.Rounds

end
-- ==== Proof.Finite.lean ====
/- Arrays that meet the precondition are arrays of reals. -/
module

public import proofs.«01_k».proof.Pre_finite
public import proofs.«01_k».proof.Proof.Lift

@[expose] public section

set_option maxRecDepth 16384

noncomputable section

namespace Cert.Pre_finite

open Idealize.ShloMosaic Quantizer

/-- The precondition's shape facts. -/
theorem shapes : Facts := ⟨by decide, by decide⟩

/-- An entry whose absolute value is below infinity is a real. -/
theorem real_of_below {a : EReal} (h : Ideal.cmp .olt (max a (-a)) (Ideal.ofBits .f32 0x7F800000#32) = 1#1) : ((a.toReal : ℝ) : EReal) = a := by
  have ht : Ideal.ofBits .f32 0x7F800000#32 = ⊤ := by simp [Ideal.ofBits, Ideal.ieee]
  rw [ht] at h
  have hlt : max a (-a) < ⊤ := by
    by_contra hn
    have h0 : Ideal.cmp .olt (max a (-a)) ⊤ = BitVec.ofBool (decide (max a (-a) < ⊤)) := rfl
    rw [h0, decide_eq_false hn] at h
    exact absurd h (by decide)
  refine EReal.coe_toReal (ne_of_lt (lt_of_le_of_lt (le_max_left _ _) hlt)) fun hb => ?_
  rw [hb] at hlt
  exact absurd hlt (by simp)

variable [Facts]

/-- Of arrays that meet the precondition, the first is the tokens' reals and the second the code books'. -/
theorem reals (x : FVec Ideal S65536x32 .f32) (cb : FVec Ideal S4x1024x32 .f32) (h : (fn x cb).1 = (fun _ => 1#1) ∧ (fn x cb).2 = fun _ => 1#1) :
    x = lift (fun t d => (x (ix2 t d)).toReal) ∧ cb = lift3 fun κ k d => (cb (ix3 κ k d)).toReal := by
  constructor
  · funext j
    idx_vars j
    exact (real_of_below (congrFun h.1 (ix2 j0 j1))).symm
  · funext j
    idx_vars j
    exact (real_of_below (congrFun h.2 (ix3 j0 j1 j2))).symm

end Cert.Pre_finite

end
-- ==== Proof.lean ====
/- The claims: the three programs run, leave their arguments unchanged and every counter at zero; the ideal kernel is the kernel's
   own text; and at finite arguments the ideal kernel's two results are the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Result
public import proofs.«01_k».proof.Proof.RefValue
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.SL.Sem Quantizer

/-- The reference runs from every memory, leaves its arguments unchanged, and has no counter that could be other than zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2.2, sem_eq_zero_of_no_sems (by decide) r.2⟩)
    (Cert.ReferenceIdeal.Rounds.run (F := Ideal) m g)

/-- At finite arguments both programs end with the quantised tokens and the loss of the arguments' reals. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.shapes) := by
  intro m g m' g' hpre hagree
  have hr := fun c : Dev Cert.KernelIdeal.nD => @Cert.Pre_finite.reals Cert.Pre_finite.shapes _ _ (hpre c)
  let X : Dev Cert.KernelIdeal.nD → Fin 65536 → Token := fun c t d =>
    ((m ((c.tc : Thread Cert.KernelIdeal.nD Cert.KernelIdeal.τ).loc Cert.KernelIdeal.main_arg0) : FVec Ideal Cert.KernelIdeal.S65536x32 .f32) (ix2 t d)).toReal
  let C : Dev Cert.KernelIdeal.nD → Fin 4 → Book := fun c κ k d =>
    ((m ((c.tc : Thread Cert.KernelIdeal.nD Cert.KernelIdeal.τ).loc Cert.KernelIdeal.main_arg1) : FVec Ideal Cert.KernelIdeal.S4x1024x32 .f32) (ix3 κ k d)).toReal
  refine ⟨fun c => (lift fun t => quantised (X c t) (C c) : FVec Ideal Cert.KernelIdeal.S65536x32 .f32),
    fun c => ((fun _ => ((loss (X c) (C c) : ℝ) : EReal)) : FVec Ideal Cert.KernelIdeal.S_ .f32),
    Cert.KernelIdeal.Arrays.run m g X C fun c => ⟨(hr c).1, (hr c).2⟩, ?_⟩
  refine (θ_run Cert.ReferenceIdeal.defs _ _).mono (fun r h c => ⟨(h c).1.trans ?_, (h c).2.1.trans ?_, (h c).2.2⟩)
    (Cert.ReferenceIdeal.Rounds.run (F := Ideal) m' g')
  · rw [(hagree c).1, (hagree c).2, (hr c).1, (hr c).2]
    exact Cert.ReferenceIdeal.Rounds.sumOf_lift (X c) (C c)
  · rw [(hagree c).1, (hagree c).2, (hr c).1, (hr c).2]
    exact Cert.ReferenceIdeal.Rounds.lossOf_lift (X c) (C c)

theorem claim : Cert.Claim :=
  ⟨Cert.Kernel.Gen.facts, Cert.KernelIdeal.Gen.facts, Cert.ReferenceIdeal.Gen.facts, Cert.Pre_finite.shapes,
    fun m ρ _ => Cert.Kernel.Gen.frame m ρ, fun m ρ _ => Cert.KernelIdeal.Gen.frame m ρ, fun m ρ _ => Cert.KernelIdeal.Gen.frame m ρ,
    fun m g _ => frame_reference m g, fun m g _ => frame_reference m g, trivial, algebraic⟩

end Cert.Proof

end
